-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2, 1024]⟩ ⟨2, ![64, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2x1024 : Shape := ⟨2, ![2, 1024]⟩
abbrev S32x2x1024 : Shape := ⟨3, ![32, 2, 1024]⟩
abbrev S2x1024x2048 : Shape := ⟨3, ![2, 1024, 2048]⟩
abbrev S2x2048x1024 : Shape := ⟨3, ![2, 2048, 1024]⟩
abbrev S32 : Shape := ⟨1, ![32]⟩
abbrev S4 : Shape := ⟨1, ![4]⟩
abbrev S1 : Shape := ⟨1, ![1]⟩
abbrev S_ : Shape := ⟨0, ![]⟩
abbrev S1x1024x2048 : Shape := ⟨3, ![1, 1024, 2048]⟩
abbrev S1x2048x1024 : Shape := ⟨3, ![1, 2048, 1024]⟩
abbrev S64x2048 : Shape := ⟨2, ![64, 2048]⟩
abbrev S1x2x1024 : Shape := ⟨3, ![1, 2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S2x1024, .f32⟩
  | .local _ .vmem, ⟨0, _⟩ => ⟨S64x1024, .f32⟩
  | .local _ .vmem, ⟨1, _⟩ => ⟨S2x1024, .f32⟩
  | .local _ .vmem, ⟨2, _⟩ => ⟨S64x1024, .bf16⟩
  | .local _ .vmem, ⟨3, _⟩ => ⟨S32x2x1024, .bf16⟩
  | .local _ .vmem, ⟨4, _⟩ => ⟨S2x1024, .bf16⟩
  | .local _ .vmem, ⟨5, _⟩ => ⟨S64x1024, .bf16⟩
  | .local _ .vmem, ⟨6, _⟩ => ⟨S2x1024x2048, .f32⟩
  | .local _ .vmem, ⟨7, _⟩ => ⟨S2x2048x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v12 : BitVec 32 := Scalar.addi v2 c1_i32_7
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v16 : BitVec 32 := Scalar.addi v2 c2_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v20 : BitVec 32 := Scalar.addi v2 c3_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v24 : BitVec 32 := Scalar.addi v2 c4_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v28 : BitVec 32 := Scalar.addi v2 c5_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v32 : BitVec 32 := Scalar.addi v2 c6_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v36 : BitVec 32 := Scalar.addi v2 c7_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v40 : BitVec 32 := Scalar.addi v2 c8_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev9 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v44 : BitVec 32 := Scalar.addi v2 c9_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev10 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v48 : BitVec 32 := Scalar.addi v2 c10_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev11 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v52 : BitVec 32 := Scalar.addi v2 c11_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev12 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v56 : BitVec 32 := Scalar.addi v2 c12_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev13 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v60 : BitVec 32 := Scalar.addi v2 c13_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev14 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v64 : BitVec 32 := Scalar.addi v2 c14_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev15 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v68 : BitVec 32 := Scalar.addi v2 c15_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev16 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v72 : BitVec 32 := Scalar.addi v2 c16_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev17 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v76 : BitVec 32 := Scalar.addi v2 c17_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev18 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v80 : BitVec 32 := Scalar.addi v2 c18_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev19 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v84 : BitVec 32 := Scalar.addi v2 c19_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev20 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v88 : BitVec 32 := Scalar.addi v2 c20_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev21 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v92 : BitVec 32 := Scalar.addi v2 c21_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev22 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v96 : BitVec 32 := Scalar.addi v2 c22_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev23 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v100 : BitVec 32 := Scalar.addi v2 c23_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev24 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v104 : BitVec 32 := Scalar.addi v2 c24_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev25 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v108 : BitVec 32 := Scalar.addi v2 c25_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev26 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v112 : BitVec 32 := Scalar.addi v2 c26_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev27 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v116 : BitVec 32 := Scalar.addi v2 c27_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev28 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v120 : BitVec 32 := Scalar.addi v2 c28_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev29 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v124 : BitVec 32 := Scalar.addi v2 c29_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_dev30 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v128 : BitVec 32 := Scalar.addi v2 c30_i32
  let c32_i32_124 : BitVec 32 := 32#32
  let v129 : BitVec 32 := Scalar.remsi v128 c32_i32_124
  let c1_i32_126 : BitVec 32 := 1#32
  let v130 : BitVec 32 := Scalar.muli v129 c1_i32_126
  let v131 : BitVec 32 := Scalar.addi c0_i32_127 v130
  v131.toNat
def k0_dev31 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v132 : BitVec 32 := Scalar.addi v2 c31_i32
  let c32_i32_128 : BitVec 32 := 32#32
  let v133 : BitVec 32 := Scalar.remsi v132 c32_i32_128
  let c1_i32_130 : BitVec 32 := 1#32
  let v134 : BitVec 32 := Scalar.muli v133 c1_i32_130
  let v135 : BitVec 32 := Scalar.addi c0_i32_131 v134
  v135.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_172 : BitVec 32 := 0#32
  let c0_i32_173 : BitVec 32 := 0#32
  ![v2.toNat, 0, 0]
def k0_dev32 : Nat :=
  let c0_i32_171 : BitVec 32 := 0#32
  let c0_i32_169 : BitVec 32 := 0#32
  let c1_i32_170 : BitVec 32 := 1#32
  let v178 : BitVec 32 := Scalar.muli c0_i32_169 c1_i32_170
  let v179 : BitVec 32 := Scalar.addi c0_i32_171 v178
  v179.toNat
def k0_dev33 : Nat :=
  let c0_i32_179 : BitVec 32 := 0#32
  let c1_i32_177 : BitVec 32 := 1#32
  let c1_i32_178 : BitVec 32 := 1#32
  let v187 : BitVec 32 := Scalar.muli c1_i32_177 c1_i32_178
  let v188 : BitVec 32 := Scalar.addi c0_i32_179 v187
  v188.toNat
def k0_dev34 : Nat :=
  let c0_i32_187 : BitVec 32 := 0#32
  let c2_i32_185 : BitVec 32 := 2#32
  let c1_i32_186 : BitVec 32 := 1#32
  let v196 : BitVec 32 := Scalar.muli c2_i32_185 c1_i32_186
  let v197 : BitVec 32 := Scalar.addi c0_i32_187 v196
  v197.toNat
def k0_dev35 : Nat :=
  let c0_i32_195 : BitVec 32 := 0#32
  let c3_i32_193 : BitVec 32 := 3#32
  let c1_i32_194 : BitVec 32 := 1#32
  let v205 : BitVec 32 := Scalar.muli c3_i32_193 c1_i32_194
  let v206 : BitVec 32 := Scalar.addi c0_i32_195 v205
  v206.toNat
def k0_dev36 : Nat :=
  let c0_i32_203 : BitVec 32 := 0#32
  let c4_i32_201 : BitVec 32 := 4#32
  let c1_i32_202 : BitVec 32 := 1#32
  let v214 : BitVec 32 := Scalar.muli c4_i32_201 c1_i32_202
  let v215 : BitVec 32 := Scalar.addi c0_i32_203 v214
  v215.toNat
def k0_dev37 : Nat :=
  let c0_i32_211 : BitVec 32 := 0#32
  let c5_i32_209 : BitVec 32 := 5#32
  let c1_i32_210 : BitVec 32 := 1#32
  let v223 : BitVec 32 := Scalar.muli c5_i32_209 c1_i32_210
  let v224 : BitVec 32 := Scalar.addi c0_i32_211 v223
  v224.toNat
def k0_dev38 : Nat :=
  let c0_i32_219 : BitVec 32 := 0#32
  let c6_i32_217 : BitVec 32 := 6#32
  let c1_i32_218 : BitVec 32 := 1#32
  let v232 : BitVec 32 := Scalar.muli c6_i32_217 c1_i32_218
  let v233 : BitVec 32 := Scalar.addi c0_i32_219 v232
  v233.toNat
def k0_dev39 : Nat :=
  let c0_i32_227 : BitVec 32 := 0#32
  let c7_i32_225 : BitVec 32 := 7#32
  let c1_i32_226 : BitVec 32 := 1#32
  let v241 : BitVec 32 := Scalar.muli c7_i32_225 c1_i32_226
  let v242 : BitVec 32 := Scalar.addi c0_i32_227 v241
  v242.toNat
def k0_dev40 : Nat :=
  let c0_i32_235 : BitVec 32 := 0#32
  let c8_i32_233 : BitVec 32 := 8#32
  let c1_i32_234 : BitVec 32 := 1#32
  let v250 : BitVec 32 := Scalar.muli c8_i32_233 c1_i32_234
  let v251 : BitVec 32 := Scalar.addi c0_i32_235 v250
  v251.toNat
def k0_dev41 : Nat :=
  let c0_i32_243 : BitVec 32 := 0#32
  let c9_i32_241 : BitVec 32 := 9#32
  let c1_i32_242 : BitVec 32 := 1#32
  let v259 : BitVec 32 := Scalar.muli c9_i32_241 c1_i32_242
  let v260 : BitVec 32 := Scalar.addi c0_i32_243 v259
  v260.toNat
def k0_dev42 : Nat :=
  let c0_i32_251 : BitVec 32 := 0#32
  let c10_i32_249 : BitVec 32 := 10#32
  let c1_i32_250 : BitVec 32 := 1#32
  let v268 : BitVec 32 := Scalar.muli c10_i32_249 c1_i32_250
  let v269 : BitVec 32 := Scalar.addi c0_i32_251 v268
  v269.toNat
def k0_dev43 : Nat :=
  let c0_i32_259 : BitVec 32 := 0#32
  let c11_i32_257 : BitVec 32 := 11#32
  let c1_i32_258 : BitVec 32 := 1#32
  let v277 : BitVec 32 := Scalar.muli c11_i32_257 c1_i32_258
  let v278 : BitVec 32 := Scalar.addi c0_i32_259 v277
  v278.toNat
def k0_dev44 : Nat :=
  let c0_i32_267 : BitVec 32 := 0#32
  let c12_i32_265 : BitVec 32 := 12#32
  let c1_i32_266 : BitVec 32 := 1#32
  let v286 : BitVec 32 := Scalar.muli c12_i32_265 c1_i32_266
  let v287 : BitVec 32 := Scalar.addi c0_i32_267 v286
  v287.toNat
def k0_dev45 : Nat :=
  let c0_i32_275 : BitVec 32 := 0#32
  let c13_i32_273 : BitVec 32 := 13#32
  let c1_i32_274 : BitVec 32 := 1#32
  let v295 : BitVec 32 := Scalar.muli c13_i32_273 c1_i32_274
  let v296 : BitVec 32 := Scalar.addi c0_i32_275 v295
  v296.toNat
def k0_dev46 : Nat :=
  let c0_i32_283 : BitVec 32 := 0#32
  let c14_i32_281 : BitVec 32 := 14#32
  let c1_i32_282 : BitVec 32 := 1#32
  let v304 : BitVec 32 := Scalar.muli c14_i32_281 c1_i32_282
  let v305 : BitVec 32 := Scalar.addi c0_i32_283 v304
  v305.toNat
def k0_dev47 : Nat :=
  let c0_i32_291 : BitVec 32 := 0#32
  let c15_i32_289 : BitVec 32 := 15#32
  let c1_i32_290 : BitVec 32 := 1#32
  let v313 : BitVec 32 := Scalar.muli c15_i32_289 c1_i32_290
  let v314 : BitVec 32 := Scalar.addi c0_i32_291 v313
  v314.toNat
def k0_dev48 : Nat :=
  let c0_i32_299 : BitVec 32 := 0#32
  let c16_i32_297 : BitVec 32 := 16#32
  let c1_i32_298 : BitVec 32 := 1#32
  let v322 : BitVec 32 := Scalar.muli c16_i32_297 c1_i32_298
  let v323 : BitVec 32 := Scalar.addi c0_i32_299 v322
  v323.toNat
def k0_dev49 : Nat :=
  let c0_i32_307 : BitVec 32 := 0#32
  let c17_i32_305 : BitVec 32 := 17#32
  let c1_i32_306 : BitVec 32 := 1#32
  let v331 : BitVec 32 := Scalar.muli c17_i32_305 c1_i32_306
  let v332 : BitVec 32 := Scalar.addi c0_i32_307 v331
  v332.toNat
def k0_dev50 : Nat :=
  let c0_i32_314 : BitVec 32 := 0#32
  let c18_i32_312 : BitVec 32 := 18#32
  let c1_i32_313 : BitVec 32 := 1#32
  let v340 : BitVec 32 := Scalar.muli c18_i32_312 c1_i32_313
  let v341 : BitVec 32 := Scalar.addi c0_i32_314 v340
  v341.toNat
def k0_dev51 : Nat :=
  let c0_i32_321 : BitVec 32 := 0#32
  let c19_i32_319 : BitVec 32 := 19#32
  let c1_i32_320 : BitVec 32 := 1#32
  let v349 : BitVec 32 := Scalar.muli c19_i32_319 c1_i32_320
  let v350 : BitVec 32 := Scalar.addi c0_i32_321 v349
  v350.toNat
def k0_dev52 : Nat :=
  let c0_i32_328 : BitVec 32 := 0#32
  let c20_i32_326 : BitVec 32 := 20#32
  let c1_i32_327 : BitVec 32 := 1#32
  let v358 : BitVec 32 := Scalar.muli c20_i32_326 c1_i32_327
  let v359 : BitVec 32 := Scalar.addi c0_i32_328 v358
  v359.toNat
def k0_dev53 : Nat :=
  let c0_i32_335 : BitVec 32 := 0#32
  let c21_i32_333 : BitVec 32 := 21#32
  let c1_i32_334 : BitVec 32 := 1#32
  let v367 : BitVec 32 := Scalar.muli c21_i32_333 c1_i32_334
  let v368 : BitVec 32 := Scalar.addi c0_i32_335 v367
  v368.toNat
def k0_dev54 : Nat :=
  let c0_i32_342 : BitVec 32 := 0#32
  let c22_i32_340 : BitVec 32 := 22#32
  let c1_i32_341 : BitVec 32 := 1#32
  let v376 : BitVec 32 := Scalar.muli c22_i32_340 c1_i32_341
  let v377 : BitVec 32 := Scalar.addi c0_i32_342 v376
  v377.toNat
def k0_dev55 : Nat :=
  let c0_i32_349 : BitVec 32 := 0#32
  let c23_i32_347 : BitVec 32 := 23#32
  let c1_i32_348 : BitVec 32 := 1#32
  let v385 : BitVec 32 := Scalar.muli c23_i32_347 c1_i32_348
  let v386 : BitVec 32 := Scalar.addi c0_i32_349 v385
  v386.toNat
def k0_dev56 : Nat :=
  let c0_i32_356 : BitVec 32 := 0#32
  let c24_i32_354 : BitVec 32 := 24#32
  let c1_i32_355 : BitVec 32 := 1#32
  let v394 : BitVec 32 := Scalar.muli c24_i32_354 c1_i32_355
  let v395 : BitVec 32 := Scalar.addi c0_i32_356 v394
  v395.toNat
def k0_dev57 : Nat :=
  let c0_i32_363 : BitVec 32 := 0#32
  let c25_i32_361 : BitVec 32 := 25#32
  let c1_i32_362 : BitVec 32 := 1#32
  let v403 : BitVec 32 := Scalar.muli c25_i32_361 c1_i32_362
  let v404 : BitVec 32 := Scalar.addi c0_i32_363 v403
  v404.toNat
def k0_dev58 : Nat :=
  let c0_i32_370 : BitVec 32 := 0#32
  let c26_i32_368 : BitVec 32 := 26#32
  let c1_i32_369 : BitVec 32 := 1#32
  let v412 : BitVec 32 := Scalar.muli c26_i32_368 c1_i32_369
  let v413 : BitVec 32 := Scalar.addi c0_i32_370 v412
  v413.toNat
def k0_dev59 : Nat :=
  let c0_i32_377 : BitVec 32 := 0#32
  let c27_i32_375 : BitVec 32 := 27#32
  let c1_i32_376 : BitVec 32 := 1#32
  let v421 : BitVec 32 := Scalar.muli c27_i32_375 c1_i32_376
  let v422 : BitVec 32 := Scalar.addi c0_i32_377 v421
  v422.toNat
def k0_dev60 : Nat :=
  let c0_i32_384 : BitVec 32 := 0#32
  let c28_i32_382 : BitVec 32 := 28#32
  let c1_i32_383 : BitVec 32 := 1#32
  let v430 : BitVec 32 := Scalar.muli c28_i32_382 c1_i32_383
  let v431 : BitVec 32 := Scalar.addi c0_i32_384 v430
  v431.toNat
def k0_dev61 : Nat :=
  let c0_i32_391 : BitVec 32 := 0#32
  let c29_i32_389 : BitVec 32 := 29#32
  let c1_i32_390 : BitVec 32 := 1#32
  let v439 : BitVec 32 := Scalar.muli c29_i32_389 c1_i32_390
  let v440 : BitVec 32 := Scalar.addi c0_i32_391 v439
  v440.toNat
def k0_dev62 : Nat :=
  let c0_i32_398 : BitVec 32 := 0#32
  let c30_i32_396 : BitVec 32 := 30#32
  let c1_i32_397 : BitVec 32 := 1#32
  let v448 : BitVec 32 := Scalar.muli c30_i32_396 c1_i32_397
  let v449 : BitVec 32 := Scalar.addi c0_i32_398 v448
  v449.toNat
def k0_dev63 : Nat :=
  let c0_i32_405 : BitVec 32 := 0#32
  let c31_i32_403 : BitVec 32 := 31#32
  let c1_i32_404 : BitVec 32 := 1#32
  let v457 : BitVec 32 := Scalar.muli c31_i32_403 c1_i32_404
  let v458 : BitVec 32 := Scalar.addi c0_i32_405 v457
  v458.toNat
def k0_off3 (d0 : Dev nD) : Fin 2 → Nat :=
  let c2_i32_972 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v871 : BitVec 32 := Scalar.muli c2_i32_972 v2
  let c0_i32_977 : BitVec 32 := 0#32
  ![v871.toNat, 0]
def k0_dev64 : Nat :=
  let c0_i32_976 : BitVec 32 := 0#32
  let c0_i32_974 : BitVec 32 := 0#32
  let c1_i32_975 : BitVec 32 := 1#32
  let v872 : BitVec 32 := Scalar.muli c0_i32_974 c1_i32_975
  let v873 : BitVec 32 := Scalar.addi c0_i32_976 v872
  v873.toNat
def k0_dev65 : Nat :=
  let c0_i32_982 : BitVec 32 := 0#32
  let c1_i32_980 : BitVec 32 := 1#32
  let c1_i32_981 : BitVec 32 := 1#32
  let v880 : BitVec 32 := Scalar.muli c1_i32_980 c1_i32_981
  let v881 : BitVec 32 := Scalar.addi c0_i32_982 v880
  v881.toNat
def k0_dev66 : Nat :=
  let c0_i32_988 : BitVec 32 := 0#32
  let c2_i32_986 : BitVec 32 := 2#32
  let c1_i32_987 : BitVec 32 := 1#32
  let v888 : BitVec 32 := Scalar.muli c2_i32_986 c1_i32_987
  let v889 : BitVec 32 := Scalar.addi c0_i32_988 v888
  v889.toNat
def k0_dev67 : Nat :=
  let c0_i32_994 : BitVec 32 := 0#32
  let c3_i32_992 : BitVec 32 := 3#32
  let c1_i32_993 : BitVec 32 := 1#32
  let v896 : BitVec 32 := Scalar.muli c3_i32_992 c1_i32_993
  let v897 : BitVec 32 := Scalar.addi c0_i32_994 v896
  v897.toNat
def k0_dev68 : Nat :=
  let c0_i32_1000 : BitVec 32 := 0#32
  let c4_i32_998 : BitVec 32 := 4#32
  let c1_i32_999 : BitVec 32 := 1#32
  let v904 : BitVec 32 := Scalar.muli c4_i32_998 c1_i32_999
  let v905 : BitVec 32 := Scalar.addi c0_i32_1000 v904
  v905.toNat
def k0_dev69 : Nat :=
  let c0_i32_1006 : BitVec 32 := 0#32
  let c5_i32_1004 : BitVec 32 := 5#32
  let c1_i32_1005 : BitVec 32 := 1#32
  let v912 : BitVec 32 := Scalar.muli c5_i32_1004 c1_i32_1005
  let v913 : BitVec 32 := Scalar.addi c0_i32_1006 v912
  v913.toNat
def k0_dev70 : Nat :=
  let c0_i32_1012 : BitVec 32 := 0#32
  let c6_i32_1010 : BitVec 32 := 6#32
  let c1_i32_1011 : BitVec 32 := 1#32
  let v920 : BitVec 32 := Scalar.muli c6_i32_1010 c1_i32_1011
  let v921 : BitVec 32 := Scalar.addi c0_i32_1012 v920
  v921.toNat
def k0_dev71 : Nat :=
  let c0_i32_1018 : BitVec 32 := 0#32
  let c7_i32_1016 : BitVec 32 := 7#32
  let c1_i32_1017 : BitVec 32 := 1#32
  let v928 : BitVec 32 := Scalar.muli c7_i32_1016 c1_i32_1017
  let v929 : BitVec 32 := Scalar.addi c0_i32_1018 v928
  v929.toNat
def k0_dev72 : Nat :=
  let c0_i32_1024 : BitVec 32 := 0#32
  let c8_i32_1022 : BitVec 32 := 8#32
  let c1_i32_1023 : BitVec 32 := 1#32
  let v936 : BitVec 32 := Scalar.muli c8_i32_1022 c1_i32_1023
  let v937 : BitVec 32 := Scalar.addi c0_i32_1024 v936
  v937.toNat
def k0_dev73 : Nat :=
  let c0_i32_1030 : BitVec 32 := 0#32
  let c9_i32_1028 : BitVec 32 := 9#32
  let c1_i32_1029 : BitVec 32 := 1#32
  let v944 : BitVec 32 := Scalar.muli c9_i32_1028 c1_i32_1029
  let v945 : BitVec 32 := Scalar.addi c0_i32_1030 v944
  v945.toNat
def k0_dev74 : Nat :=
  let c0_i32_1036 : BitVec 32 := 0#32
  let c10_i32_1034 : BitVec 32 := 10#32
  let c1_i32_1035 : BitVec 32 := 1#32
  let v952 : BitVec 32 := Scalar.muli c10_i32_1034 c1_i32_1035
  let v953 : BitVec 32 := Scalar.addi c0_i32_1036 v952
  v953.toNat
def k0_dev75 : Nat :=
  let c0_i32_1042 : BitVec 32 := 0#32
  let c11_i32_1040 : BitVec 32 := 11#32
  let c1_i32_1041 : BitVec 32 := 1#32
  let v960 : BitVec 32 := Scalar.muli c11_i32_1040 c1_i32_1041
  let v961 : BitVec 32 := Scalar.addi c0_i32_1042 v960
  v961.toNat
def k0_dev76 : Nat :=
  let c0_i32_1048 : BitVec 32 := 0#32
  let c12_i32_1046 : BitVec 32 := 12#32
  let c1_i32_1047 : BitVec 32 := 1#32
  let v968 : BitVec 32 := Scalar.muli c12_i32_1046 c1_i32_1047
  let v969 : BitVec 32 := Scalar.addi c0_i32_1048 v968
  v969.toNat
def k0_dev77 : Nat :=
  let c0_i32_1054 : BitVec 32 := 0#32
  let c13_i32_1052 : BitVec 32 := 13#32
  let c1_i32_1053 : BitVec 32 := 1#32
  let v976 : BitVec 32 := Scalar.muli c13_i32_1052 c1_i32_1053
  let v977 : BitVec 32 := Scalar.addi c0_i32_1054 v976
  v977.toNat
def k0_dev78 : Nat :=
  let c0_i32_1060 : BitVec 32 := 0#32
  let c14_i32_1058 : BitVec 32 := 14#32
  let c1_i32_1059 : BitVec 32 := 1#32
  let v984 : BitVec 32 := Scalar.muli c14_i32_1058 c1_i32_1059
  let v985 : BitVec 32 := Scalar.addi c0_i32_1060 v984
  v985.toNat
def k0_dev79 : Nat :=
  let c0_i32_1066 : BitVec 32 := 0#32
  let c15_i32_1064 : BitVec 32 := 15#32
  let c1_i32_1065 : BitVec 32 := 1#32
  let v992 : BitVec 32 := Scalar.muli c15_i32_1064 c1_i32_1065
  let v993 : BitVec 32 := Scalar.addi c0_i32_1066 v992
  v993.toNat
def k0_dev80 : Nat :=
  let c0_i32_1072 : BitVec 32 := 0#32
  let c16_i32_1070 : BitVec 32 := 16#32
  let c1_i32_1071 : BitVec 32 := 1#32
  let v1000 : BitVec 32 := Scalar.muli c16_i32_1070 c1_i32_1071
  let v1001 : BitVec 32 := Scalar.addi c0_i32_1072 v1000
  v1001.toNat
def k0_dev81 : Nat :=
  let c0_i32_1078 : BitVec 32 := 0#32
  let c17_i32_1076 : BitVec 32 := 17#32
  let c1_i32_1077 : BitVec 32 := 1#32
  let v1008 : BitVec 32 := Scalar.muli c17_i32_1076 c1_i32_1077
  let v1009 : BitVec 32 := Scalar.addi c0_i32_1078 v1008
  v1009.toNat
def k0_dev82 : Nat :=
  let c0_i32_1084 : BitVec 32 := 0#32
  let c18_i32_1082 : BitVec 32 := 18#32
  let c1_i32_1083 : BitVec 32 := 1#32
  let v1016 : BitVec 32 := Scalar.muli c18_i32_1082 c1_i32_1083
  let v1017 : BitVec 32 := Scalar.addi c0_i32_1084 v1016
  v1017.toNat
def k0_dev83 : Nat :=
  let c0_i32_1090 : BitVec 32 := 0#32
  let c19_i32_1088 : BitVec 32 := 19#32
  let c1_i32_1089 : BitVec 32 := 1#32
  let v1024 : BitVec 32 := Scalar.muli c19_i32_1088 c1_i32_1089
  let v1025 : BitVec 32 := Scalar.addi c0_i32_1090 v1024
  v1025.toNat
def k0_dev84 : Nat :=
  let c0_i32_1096 : BitVec 32 := 0#32
  let c20_i32_1094 : BitVec 32 := 20#32
  let c1_i32_1095 : BitVec 32 := 1#32
  let v1032 : BitVec 32 := Scalar.muli c20_i32_1094 c1_i32_1095
  let v1033 : BitVec 32 := Scalar.addi c0_i32_1096 v1032
  v1033.toNat
def k0_dev85 : Nat :=
  let c0_i32_1102 : BitVec 32 := 0#32
  let c21_i32_1100 : BitVec 32 := 21#32
  let c1_i32_1101 : BitVec 32 := 1#32
  let v1040 : BitVec 32 := Scalar.muli c21_i32_1100 c1_i32_1101
  let v1041 : BitVec 32 := Scalar.addi c0_i32_1102 v1040
  v1041.toNat
def k0_dev86 : Nat :=
  let c0_i32_1108 : BitVec 32 := 0#32
  let c22_i32_1106 : BitVec 32 := 22#32
  let c1_i32_1107 : BitVec 32 := 1#32
  let v1048 : BitVec 32 := Scalar.muli c22_i32_1106 c1_i32_1107
  let v1049 : BitVec 32 := Scalar.addi c0_i32_1108 v1048
  v1049.toNat
def k0_dev87 : Nat :=
  let c0_i32_1114 : BitVec 32 := 0#32
  let c23_i32_1112 : BitVec 32 := 23#32
  let c1_i32_1113 : BitVec 32 := 1#32
  let v1056 : BitVec 32 := Scalar.muli c23_i32_1112 c1_i32_1113
  let v1057 : BitVec 32 := Scalar.addi c0_i32_1114 v1056
  v1057.toNat
def k0_dev88 : Nat :=
  let c0_i32_1120 : BitVec 32 := 0#32
  let c24_i32_1118 : BitVec 32 := 24#32
  let c1_i32_1119 : BitVec 32 := 1#32
  let v1064 : BitVec 32 := Scalar.muli c24_i32_1118 c1_i32_1119
  let v1065 : BitVec 32 := Scalar.addi c0_i32_1120 v1064
  v1065.toNat
def k0_dev89 : Nat :=
  let c0_i32_1126 : BitVec 32 := 0#32
  let c25_i32_1124 : BitVec 32 := 25#32
  let c1_i32_1125 : BitVec 32 := 1#32
  let v1072 : BitVec 32 := Scalar.muli c25_i32_1124 c1_i32_1125
  let v1073 : BitVec 32 := Scalar.addi c0_i32_1126 v1072
  v1073.toNat
def k0_dev90 : Nat :=
  let c0_i32_1132 : BitVec 32 := 0#32
  let c26_i32_1130 : BitVec 32 := 26#32
  let c1_i32_1131 : BitVec 32 := 1#32
  let v1080 : BitVec 32 := Scalar.muli c26_i32_1130 c1_i32_1131
  let v1081 : BitVec 32 := Scalar.addi c0_i32_1132 v1080
  v1081.toNat
def k0_dev91 : Nat :=
  let c0_i32_1138 : BitVec 32 := 0#32
  let c27_i32_1136 : BitVec 32 := 27#32
  let c1_i32_1137 : BitVec 32 := 1#32
  let v1088 : BitVec 32 := Scalar.muli c27_i32_1136 c1_i32_1137
  let v1089 : BitVec 32 := Scalar.addi c0_i32_1138 v1088
  v1089.toNat
def k0_dev92 : Nat :=
  let c0_i32_1144 : BitVec 32 := 0#32
  let c28_i32_1142 : BitVec 32 := 28#32
  let c1_i32_1143 : BitVec 32 := 1#32
  let v1096 : BitVec 32 := Scalar.muli c28_i32_1142 c1_i32_1143
  let v1097 : BitVec 32 := Scalar.addi c0_i32_1144 v1096
  v1097.toNat
def k0_dev93 : Nat :=
  let c0_i32_1150 : BitVec 32 := 0#32
  let c29_i32_1148 : BitVec 32 := 29#32
  let c1_i32_1149 : BitVec 32 := 1#32
  let v1104 : BitVec 32 := Scalar.muli c29_i32_1148 c1_i32_1149
  let v1105 : BitVec 32 := Scalar.addi c0_i32_1150 v1104
  v1105.toNat
def k0_dev94 : Nat :=
  let c0_i32_1156 : BitVec 32 := 0#32
  let c30_i32_1154 : BitVec 32 := 30#32
  let c1_i32_1155 : BitVec 32 := 1#32
  let v1112 : BitVec 32 := Scalar.muli c30_i32_1154 c1_i32_1155
  let v1113 : BitVec 32 := Scalar.addi c0_i32_1156 v1112
  v1113.toNat
def k0_dev95 : Nat :=
  let c0_i32_1162 : BitVec 32 := 0#32
  let c31_i32_1160 : BitVec 32 := 31#32
  let c1_i32_1161 : BitVec 32 := 1#32
  let v1120 : BitVec 32 := Scalar.muli c31_i32_1160 c1_i32_1161
  let v1121 : BitVec 32 := Scalar.addi c0_i32_1162 v1120
  v1121.toNat
def k0_dev96 : Nat :=
  let c0_i32_1526 : BitVec 32 := 0#32
  let c0_i32_1524 : BitVec 32 := 0#32
  let c1_i32_1525 : BitVec 32 := 1#32
  let v1393 : BitVec 32 := Scalar.muli c0_i32_1524 c1_i32_1525
  let v1394 : BitVec 32 := Scalar.addi c0_i32_1526 v1393
  v1394.toNat
def k0_dev97 : Nat :=
  let c0_i32_1534 : BitVec 32 := 0#32
  let c1_i32_1532 : BitVec 32 := 1#32
  let c1_i32_1533 : BitVec 32 := 1#32
  let v1402 : BitVec 32 := Scalar.muli c1_i32_1532 c1_i32_1533
  let v1403 : BitVec 32 := Scalar.addi c0_i32_1534 v1402
  v1403.toNat
def k0_dev98 : Nat :=
  let c0_i32_1542 : BitVec 32 := 0#32
  let c2_i32_1540 : BitVec 32 := 2#32
  let c1_i32_1541 : BitVec 32 := 1#32
  let v1411 : BitVec 32 := Scalar.muli c2_i32_1540 c1_i32_1541
  let v1412 : BitVec 32 := Scalar.addi c0_i32_1542 v1411
  v1412.toNat
def k0_dev99 : Nat :=
  let c0_i32_1550 : BitVec 32 := 0#32
  let c3_i32_1548 : BitVec 32 := 3#32
  let c1_i32_1549 : BitVec 32 := 1#32
  let v1420 : BitVec 32 := Scalar.muli c3_i32_1548 c1_i32_1549
  let v1421 : BitVec 32 := Scalar.addi c0_i32_1550 v1420
  v1421.toNat
def k0_dev100 : Nat :=
  let c0_i32_1558 : BitVec 32 := 0#32
  let c4_i32_1556 : BitVec 32 := 4#32
  let c1_i32_1557 : BitVec 32 := 1#32
  let v1429 : BitVec 32 := Scalar.muli c4_i32_1556 c1_i32_1557
  let v1430 : BitVec 32 := Scalar.addi c0_i32_1558 v1429
  v1430.toNat
def k0_dev101 : Nat :=
  let c0_i32_1566 : BitVec 32 := 0#32
  let c5_i32_1564 : BitVec 32 := 5#32
  let c1_i32_1565 : BitVec 32 := 1#32
  let v1438 : BitVec 32 := Scalar.muli c5_i32_1564 c1_i32_1565
  let v1439 : BitVec 32 := Scalar.addi c0_i32_1566 v1438
  v1439.toNat
def k0_dev102 : Nat :=
  let c0_i32_1574 : BitVec 32 := 0#32
  let c6_i32_1572 : BitVec 32 := 6#32
  let c1_i32_1573 : BitVec 32 := 1#32
  let v1447 : BitVec 32 := Scalar.muli c6_i32_1572 c1_i32_1573
  let v1448 : BitVec 32 := Scalar.addi c0_i32_1574 v1447
  v1448.toNat
def k0_dev103 : Nat :=
  let c0_i32_1582 : BitVec 32 := 0#32
  let c7_i32_1580 : BitVec 32 := 7#32
  let c1_i32_1581 : BitVec 32 := 1#32
  let v1456 : BitVec 32 := Scalar.muli c7_i32_1580 c1_i32_1581
  let v1457 : BitVec 32 := Scalar.addi c0_i32_1582 v1456
  v1457.toNat
def k0_dev104 : Nat :=
  let c0_i32_1590 : BitVec 32 := 0#32
  let c8_i32_1588 : BitVec 32 := 8#32
  let c1_i32_1589 : BitVec 32 := 1#32
  let v1465 : BitVec 32 := Scalar.muli c8_i32_1588 c1_i32_1589
  let v1466 : BitVec 32 := Scalar.addi c0_i32_1590 v1465
  v1466.toNat
def k0_dev105 : Nat :=
  let c0_i32_1598 : BitVec 32 := 0#32
  let c9_i32_1596 : BitVec 32 := 9#32
  let c1_i32_1597 : BitVec 32 := 1#32
  let v1474 : BitVec 32 := Scalar.muli c9_i32_1596 c1_i32_1597
  let v1475 : BitVec 32 := Scalar.addi c0_i32_1598 v1474
  v1475.toNat
def k0_dev106 : Nat :=
  let c0_i32_1606 : BitVec 32 := 0#32
  let c10_i32_1604 : BitVec 32 := 10#32
  let c1_i32_1605 : BitVec 32 := 1#32
  let v1483 : BitVec 32 := Scalar.muli c10_i32_1604 c1_i32_1605
  let v1484 : BitVec 32 := Scalar.addi c0_i32_1606 v1483
  v1484.toNat
def k0_dev107 : Nat :=
  let c0_i32_1614 : BitVec 32 := 0#32
  let c11_i32_1612 : BitVec 32 := 11#32
  let c1_i32_1613 : BitVec 32 := 1#32
  let v1492 : BitVec 32 := Scalar.muli c11_i32_1612 c1_i32_1613
  let v1493 : BitVec 32 := Scalar.addi c0_i32_1614 v1492
  v1493.toNat
def k0_dev108 : Nat :=
  let c0_i32_1622 : BitVec 32 := 0#32
  let c12_i32_1620 : BitVec 32 := 12#32
  let c1_i32_1621 : BitVec 32 := 1#32
  let v1501 : BitVec 32 := Scalar.muli c12_i32_1620 c1_i32_1621
  let v1502 : BitVec 32 := Scalar.addi c0_i32_1622 v1501
  v1502.toNat
def k0_dev109 : Nat :=
  let c0_i32_1630 : BitVec 32 := 0#32
  let c13_i32_1628 : BitVec 32 := 13#32
  let c1_i32_1629 : BitVec 32 := 1#32
  let v1510 : BitVec 32 := Scalar.muli c13_i32_1628 c1_i32_1629
  let v1511 : BitVec 32 := Scalar.addi c0_i32_1630 v1510
  v1511.toNat
def k0_dev110 : Nat :=
  let c0_i32_1638 : BitVec 32 := 0#32
  let c14_i32_1636 : BitVec 32 := 14#32
  let c1_i32_1637 : BitVec 32 := 1#32
  let v1519 : BitVec 32 := Scalar.muli c14_i32_1636 c1_i32_1637
  let v1520 : BitVec 32 := Scalar.addi c0_i32_1638 v1519
  v1520.toNat
def k0_dev111 : Nat :=
  let c0_i32_1646 : BitVec 32 := 0#32
  let c15_i32_1644 : BitVec 32 := 15#32
  let c1_i32_1645 : BitVec 32 := 1#32
  let v1528 : BitVec 32 := Scalar.muli c15_i32_1644 c1_i32_1645
  let v1529 : BitVec 32 := Scalar.addi c0_i32_1646 v1528
  v1529.toNat
def k0_dev112 : Nat :=
  let c0_i32_1654 : BitVec 32 := 0#32
  let c16_i32_1652 : BitVec 32 := 16#32
  let c1_i32_1653 : BitVec 32 := 1#32
  let v1537 : BitVec 32 := Scalar.muli c16_i32_1652 c1_i32_1653
  let v1538 : BitVec 32 := Scalar.addi c0_i32_1654 v1537
  v1538.toNat
def k0_dev113 : Nat :=
  let c0_i32_1662 : BitVec 32 := 0#32
  let c17_i32_1660 : BitVec 32 := 17#32
  let c1_i32_1661 : BitVec 32 := 1#32
  let v1546 : BitVec 32 := Scalar.muli c17_i32_1660 c1_i32_1661
  let v1547 : BitVec 32 := Scalar.addi c0_i32_1662 v1546
  v1547.toNat
def k0_dev114 : Nat :=
  let c0_i32_1670 : BitVec 32 := 0#32
  let c18_i32_1668 : BitVec 32 := 18#32
  let c1_i32_1669 : BitVec 32 := 1#32
  let v1555 : BitVec 32 := Scalar.muli c18_i32_1668 c1_i32_1669
  let v1556 : BitVec 32 := Scalar.addi c0_i32_1670 v1555
  v1556.toNat
def k0_dev115 : Nat :=
  let c0_i32_1678 : BitVec 32 := 0#32
  let c19_i32_1676 : BitVec 32 := 19#32
  let c1_i32_1677 : BitVec 32 := 1#32
  let v1564 : BitVec 32 := Scalar.muli c19_i32_1676 c1_i32_1677
  let v1565 : BitVec 32 := Scalar.addi c0_i32_1678 v1564
  v1565.toNat
def k0_dev116 : Nat :=
  let c0_i32_1686 : BitVec 32 := 0#32
  let c20_i32_1684 : BitVec 32 := 20#32
  let c1_i32_1685 : BitVec 32 := 1#32
  let v1573 : BitVec 32 := Scalar.muli c20_i32_1684 c1_i32_1685
  let v1574 : BitVec 32 := Scalar.addi c0_i32_1686 v1573
  v1574.toNat
def k0_dev117 : Nat :=
  let c0_i32_1694 : BitVec 32 := 0#32
  let c21_i32_1692 : BitVec 32 := 21#32
  let c1_i32_1693 : BitVec 32 := 1#32
  let v1582 : BitVec 32 := Scalar.muli c21_i32_1692 c1_i32_1693
  let v1583 : BitVec 32 := Scalar.addi c0_i32_1694 v1582
  v1583.toNat
def k0_dev118 : Nat :=
  let c0_i32_1702 : BitVec 32 := 0#32
  let c22_i32_1700 : BitVec 32 := 22#32
  let c1_i32_1701 : BitVec 32 := 1#32
  let v1591 : BitVec 32 := Scalar.muli c22_i32_1700 c1_i32_1701
  let v1592 : BitVec 32 := Scalar.addi c0_i32_1702 v1591
  v1592.toNat
def k0_dev119 : Nat :=
  let c0_i32_1710 : BitVec 32 := 0#32
  let c23_i32_1708 : BitVec 32 := 23#32
  let c1_i32_1709 : BitVec 32 := 1#32
  let v1600 : BitVec 32 := Scalar.muli c23_i32_1708 c1_i32_1709
  let v1601 : BitVec 32 := Scalar.addi c0_i32_1710 v1600
  v1601.toNat
def k0_dev120 : Nat :=
  let c0_i32_1718 : BitVec 32 := 0#32
  let c24_i32_1716 : BitVec 32 := 24#32
  let c1_i32_1717 : BitVec 32 := 1#32
  let v1609 : BitVec 32 := Scalar.muli c24_i32_1716 c1_i32_1717
  let v1610 : BitVec 32 := Scalar.addi c0_i32_1718 v1609
  v1610.toNat
def k0_dev121 : Nat :=
  let c0_i32_1726 : BitVec 32 := 0#32
  let c25_i32_1724 : BitVec 32 := 25#32
  let c1_i32_1725 : BitVec 32 := 1#32
  let v1618 : BitVec 32 := Scalar.muli c25_i32_1724 c1_i32_1725
  let v1619 : BitVec 32 := Scalar.addi c0_i32_1726 v1618
  v1619.toNat
def k0_dev122 : Nat :=
  let c0_i32_1734 : BitVec 32 := 0#32
  let c26_i32_1732 : BitVec 32 := 26#32
  let c1_i32_1733 : BitVec 32 := 1#32
  let v1627 : BitVec 32 := Scalar.muli c26_i32_1732 c1_i32_1733
  let v1628 : BitVec 32 := Scalar.addi c0_i32_1734 v1627
  v1628.toNat
def k0_dev123 : Nat :=
  let c0_i32_1742 : BitVec 32 := 0#32
  let c27_i32_1740 : BitVec 32 := 27#32
  let c1_i32_1741 : BitVec 32 := 1#32
  let v1636 : BitVec 32 := Scalar.muli c27_i32_1740 c1_i32_1741
  let v1637 : BitVec 32 := Scalar.addi c0_i32_1742 v1636
  v1637.toNat
def k0_dev124 : Nat :=
  let c0_i32_1750 : BitVec 32 := 0#32
  let c28_i32_1748 : BitVec 32 := 28#32
  let c1_i32_1749 : BitVec 32 := 1#32
  let v1645 : BitVec 32 := Scalar.muli c28_i32_1748 c1_i32_1749
  let v1646 : BitVec 32 := Scalar.addi c0_i32_1750 v1645
  v1646.toNat
def k0_dev125 : Nat :=
  let c0_i32_1758 : BitVec 32 := 0#32
  let c29_i32_1756 : BitVec 32 := 29#32
  let c1_i32_1757 : BitVec 32 := 1#32
  let v1654 : BitVec 32 := Scalar.muli c29_i32_1756 c1_i32_1757
  let v1655 : BitVec 32 := Scalar.addi c0_i32_1758 v1654
  v1655.toNat
def k0_dev126 : Nat :=
  let c0_i32_1766 : BitVec 32 := 0#32
  let c30_i32_1764 : BitVec 32 := 30#32
  let c1_i32_1765 : BitVec 32 := 1#32
  let v1663 : BitVec 32 := Scalar.muli c30_i32_1764 c1_i32_1765
  let v1664 : BitVec 32 := Scalar.addi c0_i32_1766 v1663
  v1664.toNat
def k0_dev127 : Nat :=
  let c0_i32_1774 : BitVec 32 := 0#32
  let c31_i32_1772 : BitVec 32 := 31#32
  let c1_i32_1773 : BitVec 32 := 1#32
  let v1672 : BitVec 32 := Scalar.muli c31_i32_1772 c1_i32_1773
  let v1673 : BitVec 32 := Scalar.addi c0_i32_1774 v1672
  v1673.toNat
def k0_dev128 : Nat :=
  let c0_i32_2347 : BitVec 32 := 0#32
  let c0_i32_2345 : BitVec 32 := 0#32
  let c1_i32_2346 : BitVec 32 := 1#32
  let v2087 : BitVec 32 := Scalar.muli c0_i32_2345 c1_i32_2346
  let v2088 : BitVec 32 := Scalar.addi c0_i32_2347 v2087
  v2088.toNat
def k0_dev129 : Nat :=
  let c0_i32_2353 : BitVec 32 := 0#32
  let c1_i32_2351 : BitVec 32 := 1#32
  let c1_i32_2352 : BitVec 32 := 1#32
  let v2095 : BitVec 32 := Scalar.muli c1_i32_2351 c1_i32_2352
  let v2096 : BitVec 32 := Scalar.addi c0_i32_2353 v2095
  v2096.toNat
def k0_dev130 : Nat :=
  let c0_i32_2359 : BitVec 32 := 0#32
  let c2_i32_2357 : BitVec 32 := 2#32
  let c1_i32_2358 : BitVec 32 := 1#32
  let v2103 : BitVec 32 := Scalar.muli c2_i32_2357 c1_i32_2358
  let v2104 : BitVec 32 := Scalar.addi c0_i32_2359 v2103
  v2104.toNat
def k0_dev131 : Nat :=
  let c0_i32_2365 : BitVec 32 := 0#32
  let c3_i32_2363 : BitVec 32 := 3#32
  let c1_i32_2364 : BitVec 32 := 1#32
  let v2111 : BitVec 32 := Scalar.muli c3_i32_2363 c1_i32_2364
  let v2112 : BitVec 32 := Scalar.addi c0_i32_2365 v2111
  v2112.toNat
def k0_dev132 : Nat :=
  let c0_i32_2371 : BitVec 32 := 0#32
  let c4_i32_2369 : BitVec 32 := 4#32
  let c1_i32_2370 : BitVec 32 := 1#32
  let v2119 : BitVec 32 := Scalar.muli c4_i32_2369 c1_i32_2370
  let v2120 : BitVec 32 := Scalar.addi c0_i32_2371 v2119
  v2120.toNat
def k0_dev133 : Nat :=
  let c0_i32_2377 : BitVec 32 := 0#32
  let c5_i32_2375 : BitVec 32 := 5#32
  let c1_i32_2376 : BitVec 32 := 1#32
  let v2127 : BitVec 32 := Scalar.muli c5_i32_2375 c1_i32_2376
  let v2128 : BitVec 32 := Scalar.addi c0_i32_2377 v2127
  v2128.toNat
def k0_dev134 : Nat :=
  let c0_i32_2383 : BitVec 32 := 0#32
  let c6_i32_2381 : BitVec 32 := 6#32
  let c1_i32_2382 : BitVec 32 := 1#32
  let v2135 : BitVec 32 := Scalar.muli c6_i32_2381 c1_i32_2382
  let v2136 : BitVec 32 := Scalar.addi c0_i32_2383 v2135
  v2136.toNat
def k0_dev135 : Nat :=
  let c0_i32_2389 : BitVec 32 := 0#32
  let c7_i32_2387 : BitVec 32 := 7#32
  let c1_i32_2388 : BitVec 32 := 1#32
  let v2143 : BitVec 32 := Scalar.muli c7_i32_2387 c1_i32_2388
  let v2144 : BitVec 32 := Scalar.addi c0_i32_2389 v2143
  v2144.toNat
def k0_dev136 : Nat :=
  let c0_i32_2395 : BitVec 32 := 0#32
  let c8_i32_2393 : BitVec 32 := 8#32
  let c1_i32_2394 : BitVec 32 := 1#32
  let v2151 : BitVec 32 := Scalar.muli c8_i32_2393 c1_i32_2394
  let v2152 : BitVec 32 := Scalar.addi c0_i32_2395 v2151
  v2152.toNat
def k0_dev137 : Nat :=
  let c0_i32_2401 : BitVec 32 := 0#32
  let c9_i32_2399 : BitVec 32 := 9#32
  let c1_i32_2400 : BitVec 32 := 1#32
  let v2159 : BitVec 32 := Scalar.muli c9_i32_2399 c1_i32_2400
  let v2160 : BitVec 32 := Scalar.addi c0_i32_2401 v2159
  v2160.toNat
def k0_dev138 : Nat :=
  let c0_i32_2407 : BitVec 32 := 0#32
  let c10_i32_2405 : BitVec 32 := 10#32
  let c1_i32_2406 : BitVec 32 := 1#32
  let v2167 : BitVec 32 := Scalar.muli c10_i32_2405 c1_i32_2406
  let v2168 : BitVec 32 := Scalar.addi c0_i32_2407 v2167
  v2168.toNat
def k0_dev139 : Nat :=
  let c0_i32_2413 : BitVec 32 := 0#32
  let c11_i32_2411 : BitVec 32 := 11#32
  let c1_i32_2412 : BitVec 32 := 1#32
  let v2175 : BitVec 32 := Scalar.muli c11_i32_2411 c1_i32_2412
  let v2176 : BitVec 32 := Scalar.addi c0_i32_2413 v2175
  v2176.toNat
def k0_dev140 : Nat :=
  let c0_i32_2419 : BitVec 32 := 0#32
  let c12_i32_2417 : BitVec 32 := 12#32
  let c1_i32_2418 : BitVec 32 := 1#32
  let v2183 : BitVec 32 := Scalar.muli c12_i32_2417 c1_i32_2418
  let v2184 : BitVec 32 := Scalar.addi c0_i32_2419 v2183
  v2184.toNat
def k0_dev141 : Nat :=
  let c0_i32_2425 : BitVec 32 := 0#32
  let c13_i32_2423 : BitVec 32 := 13#32
  let c1_i32_2424 : BitVec 32 := 1#32
  let v2191 : BitVec 32 := Scalar.muli c13_i32_2423 c1_i32_2424
  let v2192 : BitVec 32 := Scalar.addi c0_i32_2425 v2191
  v2192.toNat
def k0_dev142 : Nat :=
  let c0_i32_2431 : BitVec 32 := 0#32
  let c14_i32_2429 : BitVec 32 := 14#32
  let c1_i32_2430 : BitVec 32 := 1#32
  let v2199 : BitVec 32 := Scalar.muli c14_i32_2429 c1_i32_2430
  let v2200 : BitVec 32 := Scalar.addi c0_i32_2431 v2199
  v2200.toNat
def k0_dev143 : Nat :=
  let c0_i32_2437 : BitVec 32 := 0#32
  let c15_i32_2435 : BitVec 32 := 15#32
  let c1_i32_2436 : BitVec 32 := 1#32
  let v2207 : BitVec 32 := Scalar.muli c15_i32_2435 c1_i32_2436
  let v2208 : BitVec 32 := Scalar.addi c0_i32_2437 v2207
  v2208.toNat
def k0_dev144 : Nat :=
  let c0_i32_2443 : BitVec 32 := 0#32
  let c16_i32_2441 : BitVec 32 := 16#32
  let c1_i32_2442 : BitVec 32 := 1#32
  let v2215 : BitVec 32 := Scalar.muli c16_i32_2441 c1_i32_2442
  let v2216 : BitVec 32 := Scalar.addi c0_i32_2443 v2215
  v2216.toNat
def k0_dev145 : Nat :=
  let c0_i32_2449 : BitVec 32 := 0#32
  let c17_i32_2447 : BitVec 32 := 17#32
  let c1_i32_2448 : BitVec 32 := 1#32
  let v2223 : BitVec 32 := Scalar.muli c17_i32_2447 c1_i32_2448
  let v2224 : BitVec 32 := Scalar.addi c0_i32_2449 v2223
  v2224.toNat
def k0_dev146 : Nat :=
  let c0_i32_2455 : BitVec 32 := 0#32
  let c18_i32_2453 : BitVec 32 := 18#32
  let c1_i32_2454 : BitVec 32 := 1#32
  let v2231 : BitVec 32 := Scalar.muli c18_i32_2453 c1_i32_2454
  let v2232 : BitVec 32 := Scalar.addi c0_i32_2455 v2231
  v2232.toNat
def k0_dev147 : Nat :=
  let c0_i32_2461 : BitVec 32 := 0#32
  let c19_i32_2459 : BitVec 32 := 19#32
  let c1_i32_2460 : BitVec 32 := 1#32
  let v2239 : BitVec 32 := Scalar.muli c19_i32_2459 c1_i32_2460
  let v2240 : BitVec 32 := Scalar.addi c0_i32_2461 v2239
  v2240.toNat
def k0_dev148 : Nat :=
  let c0_i32_2467 : BitVec 32 := 0#32
  let c20_i32_2465 : BitVec 32 := 20#32
  let c1_i32_2466 : BitVec 32 := 1#32
  let v2247 : BitVec 32 := Scalar.muli c20_i32_2465 c1_i32_2466
  let v2248 : BitVec 32 := Scalar.addi c0_i32_2467 v2247
  v2248.toNat
def k0_dev149 : Nat :=
  let c0_i32_2473 : BitVec 32 := 0#32
  let c21_i32_2471 : BitVec 32 := 21#32
  let c1_i32_2472 : BitVec 32 := 1#32
  let v2255 : BitVec 32 := Scalar.muli c21_i32_2471 c1_i32_2472
  let v2256 : BitVec 32 := Scalar.addi c0_i32_2473 v2255
  v2256.toNat
def k0_dev150 : Nat :=
  let c0_i32_2479 : BitVec 32 := 0#32
  let c22_i32_2477 : BitVec 32 := 22#32
  let c1_i32_2478 : BitVec 32 := 1#32
  let v2263 : BitVec 32 := Scalar.muli c22_i32_2477 c1_i32_2478
  let v2264 : BitVec 32 := Scalar.addi c0_i32_2479 v2263
  v2264.toNat
def k0_dev151 : Nat :=
  let c0_i32_2485 : BitVec 32 := 0#32
  let c23_i32_2483 : BitVec 32 := 23#32
  let c1_i32_2484 : BitVec 32 := 1#32
  let v2271 : BitVec 32 := Scalar.muli c23_i32_2483 c1_i32_2484
  let v2272 : BitVec 32 := Scalar.addi c0_i32_2485 v2271
  v2272.toNat
def k0_dev152 : Nat :=
  let c0_i32_2491 : BitVec 32 := 0#32
  let c24_i32_2489 : BitVec 32 := 24#32
  let c1_i32_2490 : BitVec 32 := 1#32
  let v2279 : BitVec 32 := Scalar.muli c24_i32_2489 c1_i32_2490
  let v2280 : BitVec 32 := Scalar.addi c0_i32_2491 v2279
  v2280.toNat
def k0_dev153 : Nat :=
  let c0_i32_2497 : BitVec 32 := 0#32
  let c25_i32_2495 : BitVec 32 := 25#32
  let c1_i32_2496 : BitVec 32 := 1#32
  let v2287 : BitVec 32 := Scalar.muli c25_i32_2495 c1_i32_2496
  let v2288 : BitVec 32 := Scalar.addi c0_i32_2497 v2287
  v2288.toNat
def k0_dev154 : Nat :=
  let c0_i32_2503 : BitVec 32 := 0#32
  let c26_i32_2501 : BitVec 32 := 26#32
  let c1_i32_2502 : BitVec 32 := 1#32
  let v2295 : BitVec 32 := Scalar.muli c26_i32_2501 c1_i32_2502
  let v2296 : BitVec 32 := Scalar.addi c0_i32_2503 v2295
  v2296.toNat
def k0_dev155 : Nat :=
  let c0_i32_2509 : BitVec 32 := 0#32
  let c27_i32_2507 : BitVec 32 := 27#32
  let c1_i32_2508 : BitVec 32 := 1#32
  let v2303 : BitVec 32 := Scalar.muli c27_i32_2507 c1_i32_2508
  let v2304 : BitVec 32 := Scalar.addi c0_i32_2509 v2303
  v2304.toNat
def k0_dev156 : Nat :=
  let c0_i32_2515 : BitVec 32 := 0#32
  let c28_i32_2513 : BitVec 32 := 28#32
  let c1_i32_2514 : BitVec 32 := 1#32
  let v2311 : BitVec 32 := Scalar.muli c28_i32_2513 c1_i32_2514
  let v2312 : BitVec 32 := Scalar.addi c0_i32_2515 v2311
  v2312.toNat
def k0_dev157 : Nat :=
  let c0_i32_2521 : BitVec 32 := 0#32
  let c29_i32_2519 : BitVec 32 := 29#32
  let c1_i32_2520 : BitVec 32 := 1#32
  let v2319 : BitVec 32 := Scalar.muli c29_i32_2519 c1_i32_2520
  let v2320 : BitVec 32 := Scalar.addi c0_i32_2521 v2319
  v2320.toNat
def k0_dev158 : Nat :=
  let c0_i32_2527 : BitVec 32 := 0#32
  let c30_i32_2525 : BitVec 32 := 30#32
  let c1_i32_2526 : BitVec 32 := 1#32
  let v2327 : BitVec 32 := Scalar.muli c30_i32_2525 c1_i32_2526
  let v2328 : BitVec 32 := Scalar.addi c0_i32_2527 v2327
  v2328.toNat
def k0_dev159 : Nat :=
  let c0_i32_2533 : BitVec 32 := 0#32
  let c31_i32_2531 : BitVec 32 := 31#32
  let c1_i32_2532 : BitVec 32 := 1#32
  let v2335 : BitVec 32 := Scalar.muli c31_i32_2531 c1_i32_2532
  let v2336 : BitVec 32 := Scalar.addi c0_i32_2533 v2335
  v2336.toNat
def k0_dev160 : Nat :=
  let c0_i32_2897 : BitVec 32 := 0#32
  let c0_i32_2895 : BitVec 32 := 0#32
  let c1_i32_2896 : BitVec 32 := 1#32
  let v2608 : BitVec 32 := Scalar.muli c0_i32_2895 c1_i32_2896
  let v2609 : BitVec 32 := Scalar.addi c0_i32_2897 v2608
  v2609.toNat
def k0_dev161 : Nat :=
  let c0_i32_2905 : BitVec 32 := 0#32
  let c1_i32_2903 : BitVec 32 := 1#32
  let c1_i32_2904 : BitVec 32 := 1#32
  let v2617 : BitVec 32 := Scalar.muli c1_i32_2903 c1_i32_2904
  let v2618 : BitVec 32 := Scalar.addi c0_i32_2905 v2617
  v2618.toNat
def k0_dev162 : Nat :=
  let c0_i32_2913 : BitVec 32 := 0#32
  let c2_i32_2911 : BitVec 32 := 2#32
  let c1_i32_2912 : BitVec 32 := 1#32
  let v2626 : BitVec 32 := Scalar.muli c2_i32_2911 c1_i32_2912
  let v2627 : BitVec 32 := Scalar.addi c0_i32_2913 v2626
  v2627.toNat
def k0_dev163 : Nat :=
  let c0_i32_2921 : BitVec 32 := 0#32
  let c3_i32_2919 : BitVec 32 := 3#32
  let c1_i32_2920 : BitVec 32 := 1#32
  let v2635 : BitVec 32 := Scalar.muli c3_i32_2919 c1_i32_2920
  let v2636 : BitVec 32 := Scalar.addi c0_i32_2921 v2635
  v2636.toNat
def k0_dev164 : Nat :=
  let c0_i32_2929 : BitVec 32 := 0#32
  let c4_i32_2927 : BitVec 32 := 4#32
  let c1_i32_2928 : BitVec 32 := 1#32
  let v2644 : BitVec 32 := Scalar.muli c4_i32_2927 c1_i32_2928
  let v2645 : BitVec 32 := Scalar.addi c0_i32_2929 v2644
  v2645.toNat
def k0_dev165 : Nat :=
  let c0_i32_2937 : BitVec 32 := 0#32
  let c5_i32_2935 : BitVec 32 := 5#32
  let c1_i32_2936 : BitVec 32 := 1#32
  let v2653 : BitVec 32 := Scalar.muli c5_i32_2935 c1_i32_2936
  let v2654 : BitVec 32 := Scalar.addi c0_i32_2937 v2653
  v2654.toNat
def k0_dev166 : Nat :=
  let c0_i32_2945 : BitVec 32 := 0#32
  let c6_i32_2943 : BitVec 32 := 6#32
  let c1_i32_2944 : BitVec 32 := 1#32
  let v2662 : BitVec 32 := Scalar.muli c6_i32_2943 c1_i32_2944
  let v2663 : BitVec 32 := Scalar.addi c0_i32_2945 v2662
  v2663.toNat
def k0_dev167 : Nat :=
  let c0_i32_2953 : BitVec 32 := 0#32
  let c7_i32_2951 : BitVec 32 := 7#32
  let c1_i32_2952 : BitVec 32 := 1#32
  let v2671 : BitVec 32 := Scalar.muli c7_i32_2951 c1_i32_2952
  let v2672 : BitVec 32 := Scalar.addi c0_i32_2953 v2671
  v2672.toNat
def k0_dev168 : Nat :=
  let c0_i32_2961 : BitVec 32 := 0#32
  let c8_i32_2959 : BitVec 32 := 8#32
  let c1_i32_2960 : BitVec 32 := 1#32
  let v2680 : BitVec 32 := Scalar.muli c8_i32_2959 c1_i32_2960
  let v2681 : BitVec 32 := Scalar.addi c0_i32_2961 v2680
  v2681.toNat
def k0_dev169 : Nat :=
  let c0_i32_2969 : BitVec 32 := 0#32
  let c9_i32_2967 : BitVec 32 := 9#32
  let c1_i32_2968 : BitVec 32 := 1#32
  let v2689 : BitVec 32 := Scalar.muli c9_i32_2967 c1_i32_2968
  let v2690 : BitVec 32 := Scalar.addi c0_i32_2969 v2689
  v2690.toNat
def k0_dev170 : Nat :=
  let c0_i32_2977 : BitVec 32 := 0#32
  let c10_i32_2975 : BitVec 32 := 10#32
  let c1_i32_2976 : BitVec 32 := 1#32
  let v2698 : BitVec 32 := Scalar.muli c10_i32_2975 c1_i32_2976
  let v2699 : BitVec 32 := Scalar.addi c0_i32_2977 v2698
  v2699.toNat
def k0_dev171 : Nat :=
  let c0_i32_2985 : BitVec 32 := 0#32
  let c11_i32_2983 : BitVec 32 := 11#32
  let c1_i32_2984 : BitVec 32 := 1#32
  let v2707 : BitVec 32 := Scalar.muli c11_i32_2983 c1_i32_2984
  let v2708 : BitVec 32 := Scalar.addi c0_i32_2985 v2707
  v2708.toNat
def k0_dev172 : Nat :=
  let c0_i32_2993 : BitVec 32 := 0#32
  let c12_i32_2991 : BitVec 32 := 12#32
  let c1_i32_2992 : BitVec 32 := 1#32
  let v2716 : BitVec 32 := Scalar.muli c12_i32_2991 c1_i32_2992
  let v2717 : BitVec 32 := Scalar.addi c0_i32_2993 v2716
  v2717.toNat
def k0_dev173 : Nat :=
  let c0_i32_3001 : BitVec 32 := 0#32
  let c13_i32_2999 : BitVec 32 := 13#32
  let c1_i32_3000 : BitVec 32 := 1#32
  let v2725 : BitVec 32 := Scalar.muli c13_i32_2999 c1_i32_3000
  let v2726 : BitVec 32 := Scalar.addi c0_i32_3001 v2725
  v2726.toNat
def k0_dev174 : Nat :=
  let c0_i32_3009 : BitVec 32 := 0#32
  let c14_i32_3007 : BitVec 32 := 14#32
  let c1_i32_3008 : BitVec 32 := 1#32
  let v2734 : BitVec 32 := Scalar.muli c14_i32_3007 c1_i32_3008
  let v2735 : BitVec 32 := Scalar.addi c0_i32_3009 v2734
  v2735.toNat
def k0_dev175 : Nat :=
  let c0_i32_3017 : BitVec 32 := 0#32
  let c15_i32_3015 : BitVec 32 := 15#32
  let c1_i32_3016 : BitVec 32 := 1#32
  let v2743 : BitVec 32 := Scalar.muli c15_i32_3015 c1_i32_3016
  let v2744 : BitVec 32 := Scalar.addi c0_i32_3017 v2743
  v2744.toNat
def k0_dev176 : Nat :=
  let c0_i32_3025 : BitVec 32 := 0#32
  let c16_i32_3023 : BitVec 32 := 16#32
  let c1_i32_3024 : BitVec 32 := 1#32
  let v2752 : BitVec 32 := Scalar.muli c16_i32_3023 c1_i32_3024
  let v2753 : BitVec 32 := Scalar.addi c0_i32_3025 v2752
  v2753.toNat
def k0_dev177 : Nat :=
  let c0_i32_3033 : BitVec 32 := 0#32
  let c17_i32_3031 : BitVec 32 := 17#32
  let c1_i32_3032 : BitVec 32 := 1#32
  let v2761 : BitVec 32 := Scalar.muli c17_i32_3031 c1_i32_3032
  let v2762 : BitVec 32 := Scalar.addi c0_i32_3033 v2761
  v2762.toNat
def k0_dev178 : Nat :=
  let c0_i32_3041 : BitVec 32 := 0#32
  let c18_i32_3039 : BitVec 32 := 18#32
  let c1_i32_3040 : BitVec 32 := 1#32
  let v2770 : BitVec 32 := Scalar.muli c18_i32_3039 c1_i32_3040
  let v2771 : BitVec 32 := Scalar.addi c0_i32_3041 v2770
  v2771.toNat
def k0_dev179 : Nat :=
  let c0_i32_3049 : BitVec 32 := 0#32
  let c19_i32_3047 : BitVec 32 := 19#32
  let c1_i32_3048 : BitVec 32 := 1#32
  let v2779 : BitVec 32 := Scalar.muli c19_i32_3047 c1_i32_3048
  let v2780 : BitVec 32 := Scalar.addi c0_i32_3049 v2779
  v2780.toNat
def k0_dev180 : Nat :=
  let c0_i32_3057 : BitVec 32 := 0#32
  let c20_i32_3055 : BitVec 32 := 20#32
  let c1_i32_3056 : BitVec 32 := 1#32
  let v2788 : BitVec 32 := Scalar.muli c20_i32_3055 c1_i32_3056
  let v2789 : BitVec 32 := Scalar.addi c0_i32_3057 v2788
  v2789.toNat
def k0_dev181 : Nat :=
  let c0_i32_3065 : BitVec 32 := 0#32
  let c21_i32_3063 : BitVec 32 := 21#32
  let c1_i32_3064 : BitVec 32 := 1#32
  let v2797 : BitVec 32 := Scalar.muli c21_i32_3063 c1_i32_3064
  let v2798 : BitVec 32 := Scalar.addi c0_i32_3065 v2797
  v2798.toNat
def k0_dev182 : Nat :=
  let c0_i32_3073 : BitVec 32 := 0#32
  let c22_i32_3071 : BitVec 32 := 22#32
  let c1_i32_3072 : BitVec 32 := 1#32
  let v2806 : BitVec 32 := Scalar.muli c22_i32_3071 c1_i32_3072
  let v2807 : BitVec 32 := Scalar.addi c0_i32_3073 v2806
  v2807.toNat
def k0_dev183 : Nat :=
  let c0_i32_3081 : BitVec 32 := 0#32
  let c23_i32_3079 : BitVec 32 := 23#32
  let c1_i32_3080 : BitVec 32 := 1#32
  let v2815 : BitVec 32 := Scalar.muli c23_i32_3079 c1_i32_3080
  let v2816 : BitVec 32 := Scalar.addi c0_i32_3081 v2815
  v2816.toNat
def k0_dev184 : Nat :=
  let c0_i32_3089 : BitVec 32 := 0#32
  let c24_i32_3087 : BitVec 32 := 24#32
  let c1_i32_3088 : BitVec 32 := 1#32
  let v2824 : BitVec 32 := Scalar.muli c24_i32_3087 c1_i32_3088
  let v2825 : BitVec 32 := Scalar.addi c0_i32_3089 v2824
  v2825.toNat
def k0_dev185 : Nat :=
  let c0_i32_3097 : BitVec 32 := 0#32
  let c25_i32_3095 : BitVec 32 := 25#32
  let c1_i32_3096 : BitVec 32 := 1#32
  let v2833 : BitVec 32 := Scalar.muli c25_i32_3095 c1_i32_3096
  let v2834 : BitVec 32 := Scalar.addi c0_i32_3097 v2833
  v2834.toNat
def k0_dev186 : Nat :=
  let c0_i32_3105 : BitVec 32 := 0#32
  let c26_i32_3103 : BitVec 32 := 26#32
  let c1_i32_3104 : BitVec 32 := 1#32
  let v2842 : BitVec 32 := Scalar.muli c26_i32_3103 c1_i32_3104
  let v2843 : BitVec 32 := Scalar.addi c0_i32_3105 v2842
  v2843.toNat
def k0_dev187 : Nat :=
  let c0_i32_3113 : BitVec 32 := 0#32
  let c27_i32_3111 : BitVec 32 := 27#32
  let c1_i32_3112 : BitVec 32 := 1#32
  let v2851 : BitVec 32 := Scalar.muli c27_i32_3111 c1_i32_3112
  let v2852 : BitVec 32 := Scalar.addi c0_i32_3113 v2851
  v2852.toNat
def k0_dev188 : Nat :=
  let c0_i32_3121 : BitVec 32 := 0#32
  let c28_i32_3119 : BitVec 32 := 28#32
  let c1_i32_3120 : BitVec 32 := 1#32
  let v2860 : BitVec 32 := Scalar.muli c28_i32_3119 c1_i32_3120
  let v2861 : BitVec 32 := Scalar.addi c0_i32_3121 v2860
  v2861.toNat
def k0_dev189 : Nat :=
  let c0_i32_3129 : BitVec 32 := 0#32
  let c29_i32_3127 : BitVec 32 := 29#32
  let c1_i32_3128 : BitVec 32 := 1#32
  let v2869 : BitVec 32 := Scalar.muli c29_i32_3127 c1_i32_3128
  let v2870 : BitVec 32 := Scalar.addi c0_i32_3129 v2869
  v2870.toNat
def k0_dev190 : Nat :=
  let c0_i32_3137 : BitVec 32 := 0#32
  let c30_i32_3135 : BitVec 32 := 30#32
  let c1_i32_3136 : BitVec 32 := 1#32
  let v2878 : BitVec 32 := Scalar.muli c30_i32_3135 c1_i32_3136
  let v2879 : BitVec 32 := Scalar.addi c0_i32_3137 v2878
  v2879.toNat
def k0_dev191 : Nat :=
  let c0_i32_3145 : BitVec 32 := 0#32
  let c31_i32_3143 : BitVec 32 := 31#32
  let c1_i32_3144 : BitVec 32 := 1#32
  let v2887 : BitVec 32 := Scalar.muli c31_i32_3143 c1_i32_3144
  let v2888 : BitVec 32 := Scalar.addi c0_i32_3145 v2887
  v2888.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x1024 : Shape := ⟨2, ![64, 1024]⟩
abbrev S1024x65536 : Shape := ⟨2, ![1024, 65536]⟩
abbrev S65536x1024 : Shape := ⟨2, ![65536, 1024]⟩
abbrev S64x65536 : Shape := ⟨2, ![64, 65536]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x65536, .f32⟩
  | .hbm, ⟨2, _⟩ => ⟨S65536x1024, .f32⟩
  | .hbm, ⟨3, _⟩ => ⟨S1024x65536, .f32⟩
  | .hbm, ⟨4, _⟩ => ⟨S65536x1024, .f32⟩
  | .hbm, ⟨5, _⟩ => ⟨S1024x65536, .f32⟩
  | .hbm, ⟨6, _⟩ => ⟨S65536x1024, .f32⟩
  | .hbm, ⟨7, _⟩ => ⟨S64x65536, .f32⟩
  | .hbm, ⟨8, _⟩ => ⟨S_, .f32⟩
  | .hbm, ⟨9, _⟩ => ⟨S64x65536, .f32⟩
  | .hbm, ⟨10, _⟩ => ⟨S64x65536, .f32⟩
  | .hbm, ⟨11, _⟩ => ⟨S64x1024, .f32⟩
  | .hbm, ⟨12, _⟩ => ⟨S64x65536, .f32⟩
  | .hbm, ⟨13, _⟩ => ⟨S_, .f32⟩
  | .hbm, ⟨14, _⟩ => ⟨S64x65536, .f32⟩
  | .hbm, ⟨15, _⟩ => ⟨S64x65536, .f32⟩
  | .hbm, ⟨16, _⟩ => ⟨S64x1024, .f32⟩
  | .hbm, ⟨17, _⟩ => ⟨S64x65536, .f32⟩
  | .hbm, ⟨18, _⟩ => ⟨S_, .f32⟩
  | .hbm, ⟨19, _⟩ => ⟨S64x65536, .f32⟩
  | .hbm, ⟨20, _⟩ => ⟨S64x65536, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Shape.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

/-! # The body as loops

The printed body is straight-line code: 31 signals, and five communication phases of 32 sends, 32 receive waits and
32 send waits each. This module writes the same program with loops over the peers, so that each loop is reasoned
about once, and proves that the two are the same program. -/

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-- The effects of a TensorCore program over the float values `F`. -/
abbrev Eff (F : FTy → Type) [FloatOps F] : Type → Type := TpuEff nD τ sig (Elt F) Λ₀ .tc

/-- The last `n` of 32 peers, in order: `f` at `32 - n`, …, `31`. -/
def loop {E : Type → Type} (f : Fin 32 → Prog E PUnit) : (n : ℕ) → n ≤ 32 → Prog E PUnit
  | 0, _ => .ret ⟨⟩
  | n + 1, h => (f ⟨32 - (n + 1), by omega⟩).bind fun _ => loop f n (by omega)

/-- The partial results of a layer, one row pair per peer. -/
abbrev psM : Memref sig .tc .vmem S64x1024 .bf16 := Memref.whole cc0_scratch0
/-- The landing slots of the partial results, one per peer. -/
abbrev pbM : Memref sig .tc .vmem S32x2x1024 .bf16 := Memref.whole cc0_scratch1
/-- The reduced row pair, before it is handed to every peer. -/
abbrev agM : Memref sig .tc .vmem S2x1024 .bf16 := Memref.whole cc0_scratch2
/-- The activations of the next layer, one row pair from each peer. -/
abbrev xbM : Memref sig .tc .vmem S64x1024 .bf16 := Memref.whole cc0_scratch3
/-- The two slots of first weights. -/
abbrev wiM : Memref sig .tc .vmem S2x1024x2048 .f32 := Memref.whole cc0_scratch4
/-- The two slots of second weights. -/
abbrev woM : Memref sig .tc .vmem S2x2048x1024 .f32 := Memref.whole cc0_scratch5

/-- Every row pair lies in the partial results. -/
theorem ps_inb : ∀ s : Fin 32, ∀ a, (![2 * s.val, 0] : Fin 2 → Nat) a + S2x1024.size a ≤ S64x1024.size a := by decide +kernel
/-- Every row pair is made of whole words. -/
theorem ps_words : ∀ s : Fin 32, (Rect.unit (s := S64x1024) ![2 * s.val, 0] S2x1024.size (ps_inb s)).WholeWords (EltTy.packing .bf16) := by decide +kernel
/-- Every slot lies in the buffer for received partial results. -/
theorem pb_inb : ∀ s : Fin 32, ∀ a, (![s.val, 0, 0] : Fin 3 → Nat) a + S1x2x1024.size a ≤ S32x2x1024.size a := by decide +kernel
/-- Every slot is made of whole words. -/
theorem pb_words : ∀ s : Fin 32, (Rect.unit (s := S32x2x1024) ![s.val, 0, 0] S1x2x1024.size (pb_inb s)).WholeWords (EltTy.packing .bf16) := by decide +kernel
/-- Every device has a semaphore in an array of 32. -/
theorem sem_inb : ∀ s : Fin 32, ∀ a, (![s.val] : Fin 1 → Nat) a + S1.size a ≤ S32.size a := by decide +kernel
/-- Every weight semaphore lies in the array of four. -/
theorem wsem_inb : ∀ s : Fin 4, ∀ a, (![s.val] : Fin 1 → Nat) a + S1.size a ≤ S4.size a := by decide +kernel
/-- Both slots lie in the double buffer of first weights. -/
theorem wi_inb : ∀ s : Fin 2, ∀ a, (![s.val, 0, 0] : Fin 3 → Nat) a + S1x1024x2048.size a ≤ S2x1024x2048.size a := by decide +kernel
/-- Both slots lie in the double buffer of second weights. -/
theorem wo_inb : ∀ s : Fin 2, ∀ a, (![s.val, 0, 0] : Fin 3 → Nat) a + S1x2048x1024.size a ≤ S2x2048x1024.size a := by decide +kernel

/-- The row pair of the partial results at an offset. -/
abbrev psAt (o : Fin 2 → ℕ) (h : ∀ a, o a + S2x1024.size a ≤ S64x1024.size a) : Memref sig .tc .vmem S2x1024 .bf16 :=
  psM.slice (Rect.unit (s := S64x1024) o S2x1024.size h) (fun _ => rfl)
/-- The landing slot at an offset. -/
abbrev pbAt (o : Fin 3 → ℕ) (h : ∀ a, o a + S1x2x1024.size a ≤ S32x2x1024.size a) : Memref sig .tc .vmem S2x1024 .bf16 :=
  (pbM.slice (Rect.unit (s := S32x2x1024) o S1x2x1024.size h) (fun _ => rfl)).squeeze S2x1024 squeezes_S1x2x1024_S2x1024
/-- The row pair of the activations at an offset. -/
abbrev xbAt (o : Fin 2 → ℕ) (h : ∀ a, o a + S2x1024.size a ≤ S64x1024.size a) : Memref sig .tc .vmem S2x1024 .bf16 :=
  xbM.slice (Rect.unit (s := S64x1024) o S2x1024.size h) (fun _ => rfl)
/-- A slot of the first weights. -/
abbrev wiAt (s : Fin 2) : Memref sig .tc .vmem S1024x2048 .f32 :=
  (wiM.slice (Rect.unit (s := S2x1024x2048) ![s.val, 0, 0] S1x1024x2048.size (wi_inb s)) (fun _ => rfl)).squeeze S1024x2048 squeezes_S1x1024x2048_S1024x2048
/-- A slot of the second weights. -/
abbrev woAt (s : Fin 2) : Memref sig .tc .vmem S2048x1024 .f32 :=
  (woM.slice (Rect.unit (s := S2x2048x1024) ![s.val, 0, 0] S1x2048x1024.size (wo_inb s)) (fun _ => rfl)).squeeze S2048x1024 squeezes_S1x2048x1024_S2048x1024

/-- The semaphore of an array at an offset. -/
abbrev semAt (a : DmaSems sig S32) (o : Fin 1 → ℕ) (h : ∀ x, o x + S1.size x ≤ S32.size x) : DmaSem sig :=
  ((a.slice (Rect.unit (s := S32) o S1.size h)).squeeze S_ squeezes_S1_S_).sem
/-- The semaphore of the sends to a peer. -/
abbrev sendS (s : Fin 32) : DmaSem sig := semAt cc0_scratch6 ![s.val] (sem_inb s)
/-- The semaphore of a weight copy. -/
abbrev wS (s : Fin 4) : DmaSem sig :=
  ((cc0_scratch9.slice (Rect.unit (s := S4) ![s.val] S1.size (wsem_inb s))).squeeze S_ squeezes_S1_S_).sem
/-- The barrier semaphore. -/
abbrev barS : Sem sig := (SemArray.scalar (sig.barrier 0 rfl) : Sems sig S_).sem

/-- The device `k` places after `d0`, as the program computes it. -/
def sigDev (k : ℕ) (d0 : Dev nD) : ℕ :=
  (Scalar.addi 0#32 (Scalar.muli (Scalar.remsi (Scalar.addi (Scalar.remsi (Scalar.divsi (Dev.word d0) 1#32) 32#32) (BitVec.ofNat 32 k)) 32#32) 1#32)).toNat

/-- The `i`-th signal goes to the device `i` steps on. -/
theorem sigDev_eq : ∀ (i : Fin 32) (d0 : Dev nD), sigDev i.val d0 = (d0.val + i.val) % 32 := by decide +kernel
/-- A signal goes to a device of the mesh. -/
theorem sigDev_lt (i : Fin 32) (d0 : Dev nD) : sigDev i.val d0 < nD := by
  rw [sigDev_eq]; exact Nat.mod_lt _ (by decide)

/-- The signal to the barrier of the device `i` places on. -/
def sigStep (d0 : Dev nD) (i : Fin 32) : Prog (Eff F) PUnit :=
  semSignalWord (⟨sigDev i.val d0, sigDev_lt i d0⟩ : Dev nD) barS 1#32

/-- The send of row pair `s` to device `s`. -/
def rsSend (d0 : Dev nD) (s : Fin 32) : Prog (Eff F) PUnit :=
  Prog.lift (.enqueueDma (psAt ![2 * s.val, 0] (ps_inb s))
    (.remote (Dev.tc (⟨s.val, s.isLt⟩ : Dev nD)) (pbAt (k0_off2 d0) (k0_off2_inb d0)) (.dma (sendS s)))
    (.dma (semAt cc0_scratch7 (k0_off1 d0) (k0_off1_inb d0)))
    ((Memref.isWhole_whole cc0_scratch0).wordExact_slice rfl _ (ps_words s))
    (((Memref.isWhole_whole cc0_scratch1).wordExact_slice rfl _ (k0_off2_wordsbf16 d0)).reshape _ _)
    ⟨⟨rfl, Or.inl rfl⟩, trivial⟩)

/-- The wait for the partial results of device `p`. -/
def rsRecv (p : Fin 32) : Prog (Eff F) PUnit :=
  Prog.lift (.waitDma2 (semAt cc0_scratch7 ![p.val] (sem_inb p)) (psAt ![0, 0] (ps_inb 0)) (pbAt ![p.val, 0, 0] (pb_inb p))
    ((Memref.isWhole_whole cc0_scratch0).wordExact_slice rfl _ (ps_words 0))
    (((Memref.isWhole_whole cc0_scratch1).wordExact_slice rfl _ (pb_words p)).reshape _ _))

/-- The wait for the send of row pair `s` to have left. -/
def rsDone (d0 : Dev nD) (s : Fin 32) : Prog (Eff F) PUnit :=
  Prog.lift (.waitDma2 (sendS s) (pbAt (k0_off2 d0) (k0_off2_inb d0)) (psAt ![2 * s.val, 0] (ps_inb s))
    (((Memref.isWhole_whole cc0_scratch1).wordExact_slice rfl _ (k0_off2_wordsbf16 d0)).reshape _ _)
    ((Memref.isWhole_whole cc0_scratch0).wordExact_slice rfl _ (ps_words s)))

/-- The send of the reduced row pair to device `s`. -/
def agSend (d0 : Dev nD) (s : Fin 32) : Prog (Eff F) PUnit :=
  Prog.lift (.enqueueDma agM
    (.remote (Dev.tc (⟨s.val, s.isLt⟩ : Dev nD)) (xbAt (k0_off3 d0) (k0_off3_inb d0)) (.dma (sendS s)))
    (.dma (semAt cc0_scratch8 (k0_off1 d0) (k0_off1_inb d0)))
    (Memref.isWhole_whole cc0_scratch2).wordExact
    ((Memref.isWhole_whole cc0_scratch3).wordExact_slice rfl _ (k0_off3_wordsbf16 d0))
    ⟨⟨rfl, Or.inl rfl⟩, trivial⟩)

/-- The wait for the reduced row pair of device `p`. -/
def agRecv (p : Fin 32) : Prog (Eff F) PUnit :=
  Prog.lift (.waitDma2 (semAt cc0_scratch8 ![p.val] (sem_inb p)) agM (xbAt ![2 * p.val, 0] (ps_inb p))
    (Memref.isWhole_whole cc0_scratch2).wordExact
    ((Memref.isWhole_whole cc0_scratch3).wordExact_slice rfl _ (ps_words p)))

/-- The wait for the send of the reduced row pair to device `s` to have left. -/
def agDone (d0 : Dev nD) (s : Fin 32) : Prog (Eff F) PUnit :=
  Prog.lift (.waitDma2 (sendS s) (xbAt (k0_off3 d0) (k0_off3_inb d0)) agM
    ((Memref.isWhole_whole cc0_scratch3).wordExact_slice rfl _ (k0_off3_wordsbf16 d0))
    (Memref.isWhole_whole cc0_scratch2).wordExact)

/-- A copy of first weights into a slot. -/
def wiCopy (a : Memref sig .tc .hbm S1024x2048 .f32) (ha : a.IsWhole) (s : Fin 2) (q : Fin 4) : Prog (Eff F) PUnit :=
  Prog.lift (.enqueueDma a (.here (wiAt s)) (.dma (wS q)) ha.wordExact ((View.wordExact_bits rfl).reshape _ _) ⟨Or.inl rfl, trivial⟩)
/-- A copy of second weights into a slot. -/
def woCopy (a : Memref sig .tc .hbm S2048x1024 .f32) (ha : a.IsWhole) (s : Fin 2) (q : Fin 4) : Prog (Eff F) PUnit :=
  Prog.lift (.enqueueDma a (.here (woAt s)) (.dma (wS q)) ha.wordExact ((View.wordExact_bits rfl).reshape _ _) ⟨Or.inl rfl, trivial⟩)
/-- The wait for a copy of first weights. -/
def wiWait (a : Memref sig .tc .hbm S1024x2048 .f32) (ha : a.IsWhole) (s : Fin 2) (q : Fin 4) : Prog (Eff F) PUnit :=
  Prog.lift (.waitDma2 (wS q) a (wiAt s) ha.wordExact ((View.wordExact_bits rfl).reshape _ _))
/-- The wait for a copy of second weights. -/
def woWait (a : Memref sig .tc .hbm S2048x1024 .f32) (ha : a.IsWhole) (s : Fin 2) (q : Fin 4) : Prog (Eff F) PUnit :=
  Prog.lift (.waitDma2 (wS q) a (woAt s) ha.wordExact ((View.wordExact_bits rfl).reshape _ _))
/-- The load of a slot of first weights. -/
def wiLoad (s : Fin 2) : Prog (Eff F) (Vec F S1x1024x2048 .f32) :=
  Prog.lift (.load wiM (Rect.unit (s := S2x1024x2048) ![s.val, 0, 0] S1x1024x2048.size (wi_inb s)).toLoadRect (View.loadsAt_vmem h_S1x1024x2048))
/-- The load of a slot of second weights. -/
def woLoad (s : Fin 2) : Prog (Eff F) (Vec F S1x2048x1024 .f32) :=
  Prog.lift (.load woM (Rect.unit (s := S2x2048x1024) ![s.val, 0, 0] S1x2048x1024.size (wo_inb s)).toLoadRect (View.loadsAt_vmem h_S1x2048x1024))

/-- The partial results are stored (and, as the program does, loaded just before). -/
def psStore (v : FVec F S64x1024 .bf16) : Prog (Eff F) PUnit :=
  (Prog.lift (.load psM (Rect.unit (s := S64x1024) ![0, 0] S64x1024.size inb_S64x1024_S64x1024_0_0).toLoadRect (View.loadsAt_vmem h_S64x1024))).bind fun _ =>
  Prog.lift (.store psM (Rect.unit (s := S64x1024) ![0, 0] S64x1024.size inb_S64x1024_S64x1024_0_0) v Finset.univ
    (View.stores_vmem h_S64x1024 ((Memref.isWhole_whole cc0_scratch0).storeExact_slice rfl _ packedbf16_S64x1024_S64x1024_0_0) (fun _ => rfl)) (.inl rfl))
/-- The reduced row pair is stored. -/
def agStore (v : FVec F S2x1024 .bf16) : Prog (Eff F) PUnit :=
  (Prog.lift (.load agM (Rect.unit (s := S2x1024) ![0, 0] S2x1024.size inb_S2x1024_S2x1024_0_0).toLoadRect (View.loadsAt_vmem h_S2x1024))).bind fun _ =>
  Prog.lift (.store agM (Rect.unit (s := S2x1024) ![0, 0] S2x1024.size inb_S2x1024_S2x1024_0_0) v Finset.univ
    (View.stores_vmem h_S2x1024 ((Memref.isWhole_whole cc0_scratch2).storeExact_slice rfl _ packedbf16_S2x1024_S2x1024_0_0) (fun _ => rfl)) (.inl rfl))
/-- The landing slots are loaded. -/
def pbLoad : Prog (Eff F) (Vec F S32x2x1024 .bf16) :=
  Prog.lift (.load pbM (Rect.unit (s := S32x2x1024) ![0, 0, 0] S32x2x1024.size inb_S32x2x1024_S32x2x1024_0_0_0).toLoadRect (View.loadsAt_vmem h_S32x2x1024))
/-- The activations are loaded. -/
def xbLoad : Prog (Eff F) (Vec F S64x1024 .bf16) :=
  Prog.lift (.load xbM (Rect.unit (s := S64x1024) ![0, 0] S64x1024.size inb_S64x1024_S64x1024_0_0).toLoadRect (View.loadsAt_vmem h_S64x1024))
/-- The result is stored. -/
def outStore (a7 : Memref sig .tc .vmem S2x1024 .f32) (v : FVec F S2x1024 .f32) : Prog (Eff F) PUnit :=
  (Prog.lift (.load a7 (Rect.unit (s := S2x1024) ![0, 0] S2x1024.size inb_S2x1024_S2x1024_0_0).toLoadRect (View.loadsAt_vmem h_S2x1024))).bind fun _ =>
  Prog.lift (.store a7 (Rect.unit (s := S2x1024) ![0, 0] S2x1024.size inb_S2x1024_S2x1024_0_0) v Finset.univ (View.stores_vmem_bits_univ h_S2x1024 rfl) (.inl rfl))

/-- The body, with its loops. -/
def body (a0 : Memref sig .tc .vmem S64x1024 .f32) (a7 : Memref sig .tc .vmem S2x1024 .f32) : Prog (Eff F) PUnit :=
  (Prog.lift .deviceId : Prog (Eff F) (Dev nD)).bind fun d0 =>
  (wiCopy (Memref.whole main_arg1) (Memref.isWhole_whole _) 0 0).bind fun _ =>
  (woCopy (Memref.whole main_arg2) (Memref.isWhole_whole _) 0 1).bind fun _ =>
  (loop (sigStep d0) 31 (by decide)).bind fun _ =>
  (Prog.lift (.load a0 (Rect.unit (s := S64x1024) ![0, 0] S64x1024.size inb_S64x1024_S64x1024_0_0).toLoadRect (View.loadsAt_vmem h_S64x1024)) : Prog (Eff F) (Vec F S64x1024 .f32)).bind fun x =>
  (wiWait (Memref.whole main_arg1) (Memref.isWhole_whole _) 0 0).bind fun _ =>
  (wiLoad 0).bind fun wi0 =>
  (woWait (Memref.whole main_arg2) (Memref.isWhole_whole _) 0 1).bind fun _ =>
  (woLoad 0).bind fun wo0 =>
  (wiCopy (Memref.whole main_arg3) (Memref.isWhole_whole _) 1 2).bind fun _ =>
  (woCopy (Memref.whole main_arg4) (Memref.isWhole_whole _) 1 3).bind fun _ =>
  (wiCopy (Memref.whole main_arg5) (Memref.isWhole_whole _) 0 0).bind fun _ =>
  (woCopy (Memref.whole main_arg6) (Memref.isWhole_whole _) 0 1).bind fun _ =>
  (semWaitWord barS 31#32 : Prog (Eff F) PUnit).bind fun _ =>
  (psStore (k0_pay3 (k0_pay2 (k0_pay1 x wi0) wo0))).bind fun _ =>
  (loop (rsSend d0) 32 le_rfl).bind fun _ =>
  (wiWait (Memref.whole main_arg3) (Memref.isWhole_whole _) 1 2).bind fun _ =>
  (woWait (Memref.whole main_arg4) (Memref.isWhole_whole _) 1 3).bind fun _ =>
  (wiLoad 1).bind fun wi1 =>
  (woLoad 1).bind fun wo1 =>
  (loop rsRecv 32 le_rfl).bind fun _ =>
  pbLoad.bind fun r0 =>
  (loop (rsDone d0) 32 le_rfl).bind fun _ =>
  (agStore (k0_pay7 (k0_pay6 r0))).bind fun _ =>
  (loop (agSend d0) 32 le_rfl).bind fun _ =>
  (loop agRecv 32 le_rfl).bind fun _ =>
  xbLoad.bind fun x1 =>
  (loop (agDone d0) 32 le_rfl).bind fun _ =>
  (psStore (k0_pay8 (k0_pay4 wi1) (k0_pay5 wo1) x1)).bind fun _ =>
  (loop (rsSend d0) 32 le_rfl).bind fun _ =>
  (wiWait (Memref.whole main_arg5) (Memref.isWhole_whole _) 0 0).bind fun _ =>
  (woWait (Memref.whole main_arg6) (Memref.isWhole_whole _) 0 1).bind fun _ =>
  (wiLoad 0).bind fun wi2 =>
  (woLoad 0).bind fun wo2 =>
  (loop rsRecv 32 le_rfl).bind fun _ =>
  pbLoad.bind fun r1 =>
  (loop (rsDone d0) 32 le_rfl).bind fun _ =>
  (agStore (k0_pay12 (k0_pay11 r1))).bind fun _ =>
  (loop (agSend d0) 32 le_rfl).bind fun _ =>
  (loop agRecv 32 le_rfl).bind fun _ =>
  xbLoad.bind fun x2 =>
  (loop (agDone d0) 32 le_rfl).bind fun _ =>
  (psStore (k0_pay13 (k0_pay9 wi2) (k0_pay10 wo2) x2)).bind fun _ =>
  (loop (rsSend d0) 32 le_rfl).bind fun _ =>
  (loop rsRecv 32 le_rfl).bind fun _ =>
  pbLoad.bind fun r2 =>
  (loop (rsDone d0) 32 le_rfl).bind fun _ =>
  outStore a7 (k0_pay14 r2)

/-- The printed body is the body with loops. -/
theorem body_eq (a0 : Memref sig .tc .vmem S64x1024 .f32) (h0 : a0.IsWhole) (a7 : Memref sig .tc .vmem S2x1024 .f32) (h7 : a7.IsWhole) :
    cc0_body (F := F) a0 h0 (Memref.whole main_arg1) (Memref.isWhole_whole _) (Memref.whole main_arg2) (Memref.isWhole_whole _)
      (Memref.whole main_arg3) (Memref.isWhole_whole _) (Memref.whole main_arg4) (Memref.isWhole_whole _)
      (Memref.whole main_arg5) (Memref.isWhole_whole _) (Memref.whole main_arg6) (Memref.isWhole_whole _) a7 h7
      psM (Memref.isWhole_whole _) pbM (Memref.isWhole_whole _) agM (Memref.isWhole_whole _) xbM (Memref.isWhole_whole _)
      wiM (Memref.isWhole_whole _) woM (Memref.isWhole_whole _) cc0_scratch6 cc0_scratch7 cc0_scratch8 cc0_scratch9
    = body a0 a7 := by
  chain_rfl

end Cert.KernelIdeal.Ring

end
-- ==== Proof.Mem.lean ====
module

public import proofs.«01_k».proof.Proof.Shape
public import Idealize.ShloMosaic.Lib.Ring
public import Idealize.ShloMosaic.Lib.ValueLayout

@[expose] public section

/-! # The buffers, piece by piece

The partial results and the activations are 32 row pairs, one per device; the landing buffer is 32 slots, one per
device. This module names the pieces, says what each transfer leaves in its piece, and cuts the buffers into the pieces
and joins them again. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## The pieces -/

/-- Row pair `s` of the partial results. -/
abbrev psRow (s : Fin 32) : Memref sig .tc .vmem S2x1024 .bf16 := psAt ![2 * s.val, 0] (ps_inb s)
/-- Slot `p` of the landing buffer. -/
abbrev pbSlot (p : Fin 32) : Memref sig .tc .vmem S2x1024 .bf16 := pbAt ![p.val, 0, 0] (pb_inb p)
/-- Row pair `p` of the activations. -/
abbrev xbRow (p : Fin 32) : Memref sig .tc .vmem S2x1024 .bf16 := xbAt ![2 * p.val, 0] (ps_inb p)

/-- The elements of row pair `s` (of the partial results, or of the activations). -/
def rowSet (s : Fin 32) : Finset S64x1024.Idx := (Rect.unit (s := S64x1024) ![2 * s.val, 0] S2x1024.size (ps_inb s)).set
/-- The elements of slot `p` of the landing buffer. -/
def slotSet (p : Fin 32) : Finset S32x2x1024.Idx := (Rect.unit (s := S32x2x1024) ![p.val, 0, 0] S1x2x1024.size (pb_inb p)).set
/-- The elements of a slot of first weights. -/
def wiSet (s : Fin 2) : Finset S2x1024x2048.Idx := (Rect.unit (s := S2x1024x2048) ![s.val, 0, 0] S1x1024x2048.size (wi_inb s)).set
/-- The elements of a slot of second weights. -/
def woSet (s : Fin 2) : Finset S2x2048x1024.Idx := (Rect.unit (s := S2x2048x1024) ![s.val, 0, 0] S1x2048x1024.size (wo_inb s)).set

/-- The elements of a row pair to be sent. -/
theorem psRow_set (s : Fin 32) : (psRow s).view.set = rowSet s := View.set_slice_whole _ _
/-- The elements of a row pair of the gathered activations. -/
theorem xbRow_set (s : Fin 32) : (xbRow s).view.set = rowSet s := View.set_slice_whole _ _
/-- The elements of a slot for received partial results. -/
theorem pbSlot_set (p : Fin 32) : (pbSlot p).view.set = slotSet p := (View.set_reshape _ _).trans (View.set_slice_whole _ _)
/-- The elements of a slot of first weights, seen flat. -/
theorem wiAt_set (s : Fin 2) : (wiAt s).view.set = wiSet s := (View.set_reshape _ _).trans (View.set_slice_whole _ _)
/-- The elements of a slot of second weights, seen flat. -/
theorem woAt_set (s : Fin 2) : (woAt s).view.set = woSet s := (View.set_reshape _ _).trans (View.set_slice_whole _ _)
/-- The reduced row pair's buffer is all of it. -/
theorem agM_set : agM.view.set = Finset.univ := View.set_whole _

/-- Different row pairs share no element. -/
theorem row_disjoint (s s' : Fin 32) (h : s ≠ s') : Disjoint (rowSet s) (rowSet s') :=
  Ring.lead_disjoint (s := S64x1024) (0 : Fin 2) 2 (fun s : Fin 32 => ![2 * s.val, 0]) S2x1024.size ps_inb (fun _ => rfl) rfl s s' h
/-- The row pairs are all the rows. -/
theorem row_cover : Finset.univ.biUnion rowSet = Finset.univ :=
  Ring.lead_cover (s := S64x1024) (0 : Fin 2) 2 (fun s : Fin 32 => ![2 * s.val, 0]) S2x1024.size ps_inb (fun _ => rfl)
    (fun _ a h => match a, h with | ⟨0, _⟩, h => absurd rfl h | ⟨1, _⟩, _ => rfl) rfl (fun a h => match a, h with | ⟨0, _⟩, h => absurd rfl h | ⟨1, _⟩, _ => rfl) rfl
/-- Different slots share no element. -/
theorem slot_disjoint (s s' : Fin 32) (h : s ≠ s') : Disjoint (slotSet s) (slotSet s') :=
  Ring.lead_disjoint (s := S32x2x1024) (0 : Fin 3) 1 (fun s : Fin 32 => ![s.val, 0, 0]) S1x2x1024.size pb_inb (fun s => (Nat.one_mul s.val).symm) rfl s s' h
/-- The slots are the whole buffer. -/
theorem slot_cover : Finset.univ.biUnion slotSet = Finset.univ :=
  Ring.lead_cover (s := S32x2x1024) (0 : Fin 3) 1 (fun s : Fin 32 => ![s.val, 0, 0]) S1x2x1024.size pb_inb (fun s => (Nat.one_mul s.val).symm)
    (fun _ a h => match a, h with | ⟨0, _⟩, h => absurd rfl h | ⟨1, _⟩, _ => rfl | ⟨2, _⟩, _ => rfl) rfl (fun a h => match a, h with | ⟨0, _⟩, h => absurd rfl h | ⟨1, _⟩, _ => rfl | ⟨2, _⟩, _ => rfl) rfl
/-- The two slots of first weights share no element. -/
theorem wi_disjoint (s s' : Fin 2) (h : s ≠ s') : Disjoint (wiSet s) (wiSet s') :=
  Ring.lead_disjoint (s := S2x1024x2048) (0 : Fin 3) 1 (fun s : Fin 2 => ![s.val, 0, 0]) S1x1024x2048.size wi_inb (fun s => (Nat.one_mul s.val).symm) rfl s s' h
/-- The two slots of first weights are the whole buffer. -/
theorem wi_cover : Finset.univ.biUnion wiSet = Finset.univ :=
  Ring.lead_cover (s := S2x1024x2048) (0 : Fin 3) 1 (fun s : Fin 2 => ![s.val, 0, 0]) S1x1024x2048.size wi_inb (fun s => (Nat.one_mul s.val).symm)
    (fun _ a h => match a, h with | ⟨0, _⟩, h => absurd rfl h | ⟨1, _⟩, _ => rfl | ⟨2, _⟩, _ => rfl) rfl (fun a h => match a, h with | ⟨0, _⟩, h => absurd rfl h | ⟨1, _⟩, _ => rfl | ⟨2, _⟩, _ => rfl) rfl
/-- The two slots of second weights share no element. -/
theorem wo_disjoint (s s' : Fin 2) (h : s ≠ s') : Disjoint (woSet s) (woSet s') :=
  Ring.lead_disjoint (s := S2x2048x1024) (0 : Fin 3) 1 (fun s : Fin 2 => ![s.val, 0, 0]) S1x2048x1024.size wo_inb (fun s => (Nat.one_mul s.val).symm) rfl s s' h
/-- The two slots of second weights are the whole buffer. -/
theorem wo_cover : Finset.univ.biUnion woSet = Finset.univ :=
  Ring.lead_cover (s := S2x2048x1024) (0 : Fin 3) 1 (fun s : Fin 2 => ![s.val, 0, 0]) S1x2048x1024.size wo_inb (fun s => (Nat.one_mul s.val).symm)
    (fun _ a h => match a, h with | ⟨0, _⟩, h => absurd rfl h | ⟨1, _⟩, _ => rfl | ⟨2, _⟩, _ => rfl) rfl (fun a h => match a, h with | ⟨0, _⟩, h => absurd rfl h | ⟨1, _⟩, _ => rfl | ⟨2, _⟩, _ => rfl) rfl

/-! ## Placement of an index of a piece -/

/-- An index of a rectangle of unit stride lies at the offset plus itself. -/
theorem unit_emb_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

/-- Where an index of a row pair to be sent lies. -/
theorem psRow_emb (s : Fin 32) (r : Fin 2) (j : Fin 1024) :
    (psRow s).view.emb (ix2 r j) = (ix2 (⟨2 * s.val + r.val, by omega⟩ : Fin 64) j : S64x1024.Idx) := by
  show (Rect.unit (s := S64x1024) ![2 * s.val, 0] S2x1024.size (ps_inb s)).emb (ix2 r j) = _
  funext a
  apply Fin.ext
  refine (unit_emb_val _ _ _ _ _).trans ?_
  match a with
  | ⟨0, _⟩ => rfl
  | ⟨1, _⟩ => exact Nat.zero_add _
/-- Where an index of a row pair of the gathered activations lies. -/
theorem xbRow_emb (s : Fin 32) (r : Fin 2) (j : Fin 1024) :
    (xbRow s).view.emb (ix2 r j) = (ix2 (⟨2 * s.val + r.val, by omega⟩ : Fin 64) j : S64x1024.Idx) := psRow_emb s r j
/-- Where an index of a slot for received partial results lies. -/
theorem pbSlot_emb (p : Fin 32) (r : Fin 2) (j : Fin 1024) :
    (pbSlot p).view.emb (ix2 r j) = (ix3 p r j : S32x2x1024.Idx) := by
  show (Rect.unit (s := S32x2x1024) ![p.val, 0, 0] S1x2x1024.size (pb_inb p)).emb (Shape.reshapeEquiv _ (ix2 r j)) = _
  erw [reshapeEquiv_ix2_1ab]
  funext a
  apply Fin.ext
  refine (unit_emb_val _ _ _ _ _).trans ?_
  match a with
  | ⟨0, _⟩ => rfl
  | ⟨1, _⟩ => exact Nat.zero_add _
  | ⟨2, _⟩ => exact Nat.zero_add _
/-- Where an index of a slot of first weights lies. -/
theorem wiAt_emb (s : Fin 2) (r : Fin 1024) (j : Fin 2048) :
    (wiAt s).view.emb (ix2 r j) = (ix3 s r j : S2x1024x2048.Idx) := by
  show (Rect.unit (s := S2x1024x2048) ![s.val, 0, 0] S1x1024x2048.size (wi_inb s)).emb (Shape.reshapeEquiv _ (ix2 r j)) = _
  erw [reshapeEquiv_ix2_1ab]
  funext a
  apply Fin.ext
  refine (unit_emb_val _ _ _ _ _).trans ?_
  match a with
  | ⟨0, _⟩ => rfl
  | ⟨1, _⟩ => exact Nat.zero_add _
  | ⟨2, _⟩ => exact Nat.zero_add _
/-- Where an index of a slot of second weights lies. -/
theorem woAt_emb (s : Fin 2) (r : Fin 2048) (j : Fin 1024) :
    (woAt s).view.emb (ix2 r j) = (ix3 s r j : S2x2048x1024.Idx) := by
  show (Rect.unit (s := S2x2048x1024) ![s.val, 0, 0] S1x2048x1024.size (wo_inb s)).emb (Shape.reshapeEquiv _ (ix2 r j)) = _
  erw [reshapeEquiv_ix2_1ab]
  funext a
  apply Fin.ext
  refine (unit_emb_val _ _ _ _ _).trans ?_
  match a with
  | ⟨0, _⟩ => rfl
  | ⟨1, _⟩ => exact Nat.zero_add _
  | ⟨2, _⟩ => exact Nat.zero_add _

/-! ## Whole contents of the buffers -/

/-- Row pair `c` of each device's partial results, as they lie in the landing buffer. -/
def gathered {α : Type} (X : Fin 32 → S64x1024.Idx → α) (c : Fin 32) : S32x2x1024.Idx → α :=
  fun i => X (i 0) (ix2 (⟨2 * c.val + (i 1).val, by have : (i 1).val < 2 := (i 1).isLt; omega⟩ : Fin 64) (i 2))
/-- The devices' reduced row pairs, one below the other. -/
def stacked {α : Type} (R : Fin 32 → S2x1024.Idx → α) : S64x1024.Idx → α :=
  fun i => R ⟨(i 0).val / 2, by have : (i 0).val < 64 := (i 0).isLt; omega⟩
    (ix2 (⟨(i 0).val % 2, Nat.mod_lt _ (by decide)⟩ : Fin 2) (i 1))
/-- First weights in both slots. -/
def twiceI {α : Type} (w : S1024x2048.Idx → α) : S2x1024x2048.Idx → α := fun i => w (ix2 (i 1) (i 2))
/-- Second weights in both slots. -/
def twiceO {α : Type} (w : S2048x1024.Idx → α) : S2x2048x1024.Idx → α := fun i => w (ix2 (i 1) (i 2))

omit [FloatOps F] in
/-- Slot `p` of what device `c` has gathered is row pair `c` of device `p`'s partial results. -/
theorem read_gathered (X : Fin 32 → S64x1024.Idx → Elt F .bf16) (c p : Fin 32) :
    (pbSlot p).view.read (Elt F) (gathered X c) = (psRow c).view.read (Elt F) (X p) := by
  funext j
  rw [eq_ix2 j]
  show gathered X c ((pbSlot p).view.emb (ix2 (j 0) (j 1))) = X p ((psRow c).view.emb (ix2 (j 0) (j 1)))
  exact (congrArg (gathered X c) (pbSlot_emb p (j 0) (j 1))).trans (congrArg (X p) (psRow_emb c (j 0) (j 1))).symm
omit [FloatOps F] in
/-- Row pair `p` of the stacked activations is device `p`'s reduced row pair. -/
theorem read_stacked (R : Fin 32 → S2x1024.Idx → Elt F .bf16) (p : Fin 32) :
    (xbRow p).view.read (Elt F) (stacked R) = R p := by
  funext j
  rw [eq_ix2 j]
  show stacked R ((xbRow p).view.emb (ix2 (j 0) (j 1))) = R p (ix2 (j 0) (j 1))
  refine (congrArg (stacked R) (xbRow_emb p (j 0) (j 1))).trans ?_
  have h : (j 0).val < 2 := (j 0).isLt
  unfold stacked
  have h1 : (⟨(2 * p.val + (j 0).val) / 2, by omega⟩ : Fin 32) = p := Fin.ext (by show (2 * p.val + (j 0).val) / 2 = p.val; omega)
  have h2 : (⟨(2 * p.val + (j 0).val) % 2, Nat.mod_lt _ (by decide)⟩ : Fin 2) = j 0 := Fin.ext (by show (2 * p.val + (j 0).val) % 2 = (j 0).val; omega)
  exact congrArg₂ (fun a b => R a (ix2 b (j 1))) h1 h2
omit [FloatOps F] in
/-- Either slot of first weights reads as the weights. -/
theorem read_twiceI (w : S1024x2048.Idx → Elt F .f32) (s : Fin 2) : (wiAt s).view.read (Elt F) (twiceI w) = w := by
  funext j
  rw [eq_ix2 j]
  exact congrArg (twiceI w) (wiAt_emb s (j 0) (j 1))
omit [FloatOps F] in
/-- Either slot of second weights reads as the weights. -/
theorem read_twiceO (w : S2048x1024.Idx → Elt F .f32) (s : Fin 2) : (woAt s).view.read (Elt F) (twiceO w) = w := by
  funext j
  rw [eq_ix2 j]
  exact congrArg (twiceO w) (woAt_emb s (j 0) (j 1))

/-- A view written throughout with what it reads in `g` holds `g`'s contents. -/
theorem written_eq {κ : Kind} {sp : Space} {s : Shape} {e : EltTy} {Val : EltTy → Type} (v : View sig κ sp s e) (g f : v.ty.Contents Val)
    (w : s.Idx → Val e) (hw : v.read Val g = w) (i : v.ty.Idx) (hi : i ∈ v.set) : v.write Val f w Finset.univ i = g i := by
  subst hw
  obtain ⟨x, -, rfl⟩ := Finset.mem_map.mp hi
  rw [View.write_emb_of_mem _ _ (Finset.mem_univ x)]
  exact cast_cast _ _ _

end Cert.KernelIdeal.Ring

end
-- ==== Proof.Protocol.lean ====
module

public import proofs.«01_k».proof.Proof.Mem

@[expose] public section

/-! # The protocol

What every semaphore of the kernel counts, who pays it, in which round, and what the payment hands over; what every
device owes at the start, and the order in which the devices wait. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Duties are named by the device that pays them. -/
abbrev UB : Type := URounds (GSem nD τ sig) (Fin 32)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The semaphores -/

/-- The kernel's semaphores: those of the sends, of the partial results, of the activations, of the weights. -/
abbrev Own : Type := Fin 32 ⊕ (Fin 32 ⊕ (Fin 32 ⊕ Fin 4))
/-- All of the protocol's: the barrier and the kernel's own. -/
abbrev Kind : Type := Unit ⊕ Own
@[match_pattern] abbrev kBar : Kind := .inl ()
@[match_pattern] abbrev oSend (s : Fin 32) : Own := .inl s
@[match_pattern] abbrev oRs (p : Fin 32) : Own := .inr (.inl p)
@[match_pattern] abbrev oAg (p : Fin 32) : Own := .inr (.inr (.inl p))
@[match_pattern] abbrev oW (q : Fin 4) : Own := .inr (.inr (.inr q))

/-- The semaphore on which device `p`'s partial results arrive. -/
abbrev rsS (p : Fin 32) : DmaSem sig := semAt cc0_scratch7 ![p.val] (sem_inb p)
/-- The semaphore on which device `p`'s reduced row pair arrives. -/
abbrev agS (p : Fin 32) : DmaSem sig := semAt cc0_scratch8 ![p.val] (sem_inb p)

def osem : Own → SemLoc sig
  | oSend s => .dma (sendS s)
  | oRs p => .dma (rsS p)
  | oAg p => .dma (agS p)
  | oW q => .dma (wS q)
def csem : Kind → SemLoc sig
  | kBar => .reg barS
  | .inr o => osem o

/-- Which of the protocol's semaphores a semaphore is. -/
def cls : SemLoc sig → Option Kind
  | .reg s => if s = barS then some kBar else none
  | .dma q =>
    if h : q.val < 2 then none
    else if h : q.val < 34 then some (.inr (oSend ⟨q.val - 2, by omega⟩))
    else if h : q.val < 66 then some (.inr (oRs ⟨q.val - 34, by omega⟩))
    else if h : q.val < 98 then some (.inr (oAg ⟨q.val - 66, by omega⟩))
    else if h : q.val < 102 then some (.inr (oW ⟨q.val - 98, by omega⟩))
    else none

/-- The barrier's semaphore is known as such. -/
theorem cls_bar : cls (.reg barS) = some kBar := by decide +kernel
/-- A send semaphore is known as such. -/
theorem cls_send : ∀ s, cls (.dma (sendS s)) = some (.inr (oSend s)) := by decide +kernel
/-- A semaphore for received partial results is known as such. -/
theorem cls_rs : ∀ s, cls (.dma (rsS s)) = some (.inr (oRs s)) := by decide +kernel
/-- A semaphore for received row pairs is known as such. -/
theorem cls_ag : ∀ s, cls (.dma (agS s)) = some (.inr (oAg s)) := by decide +kernel
/-- A weight semaphore is known as such. -/
theorem cls_w : ∀ s, cls (.dma (wS s)) = some (.inr (oW s)) := by decide +kernel
/-- Every semaphore of the protocol is known as what it is. -/
theorem cls_csem : ∀ k, cls (csem k) = some k
  | kBar => cls_bar
  | .inr (oSend s) => cls_send s
  | .inr (oRs s) => cls_rs s
  | .inr (oAg s) => cls_ag s
  | .inr (oW s) => cls_w s
/-- Different kinds are different semaphores. -/
theorem csem_inj : Function.Injective csem := fun a b h => Option.some.inj ((cls_csem a).symm.trans ((congrArg cls h).trans (cls_csem b)))

/-- The cell of kind `ck.2` on device `ck.1`. -/
def kcell (ck : Dev nD × Kind) : GSem nD τ sig := ((ck.1 : Thread nD τ), csem ck.2)
/-- Different devices or kinds are different cells. -/
theorem kcell_inj : Function.Injective kcell := fun a b h => by
  have h1 : (kcell a).1.1 = (kcell b).1.1 := congrArg (fun g : GSem nD τ sig => g.1.1) h
  exact Prod.ext h1 (csem_inj (congrArg Prod.snd h))

abbrev barC (c : Dev nD) : GSem nD τ sig := ((c : Thread nD τ), .reg barS)
abbrev sendC (c : Dev nD) (s : Fin 32) : GSem nD τ sig := ((c : Thread nD τ), .dma (sendS s))
abbrev rsC (c : Dev nD) (p : Fin 32) : GSem nD τ sig := ((c : Thread nD τ), .dma (rsS p))
abbrev agC (c : Dev nD) (p : Fin 32) : GSem nD τ sig := ((c : Thread nD τ), .dma (agS p))
abbrev wC (c : Dev nD) (q : Fin 4) : GSem nD τ sig := ((c : Thread nD τ), .dma (wS q))

/-- The credit of a row pair. -/
abbrev N : ℕ := agM.view.dmaCredit
/-- A row pair counts something. -/
theorem N_pos : 0 < N := View.dmaCredit_pos _ (by decide)
/-- The credit of one device's weights of a layer. -/
abbrev NI : ℕ := (wiAt 0).view.dmaCredit
abbrev NO : ℕ := (woAt 0).view.dmaCredit
/-- First weights count something. -/
theorem NI_pos : 0 < NI := View.dmaCredit_pos _ (by decide)
/-- Second weights count something. -/
theorem NO_pos : 0 < NO := View.dmaCredit_pos _ (by decide)

/-! ## The values -/

/-- The staged activations of the first layer. -/
def xstg (c : Dev nD) : (cc0_stg0_0 : Ref sig .tc).ty.Contents (Elt F) :=
  (win0_0.blk (0 : Fin 1)).view.read (Elt F) ((s₀ m ρ).mem ((c : Thread nD τ).loc main_arg0))

/-- The load of slot `s` of first weights when both slots hold `w`. -/
def ldI (w : S1024x2048.Idx → Elt F .f32) (s : Fin 2) : Vec F S1x1024x2048 .f32 :=
  wiM.view.readAt (Elt F) (Rect.unit (s := S2x1024x2048) ![s.val, 0, 0] S1x1024x2048.size (wi_inb s)).toLoadRect (twiceI w)
/-- The load of slot `s` of second weights when both slots hold `w`. -/
def ldO (w : S2048x1024.Idx → Elt F .f32) (s : Fin 2) : Vec F S1x2048x1024 .f32 :=
  woM.view.readAt (Elt F) (Rect.unit (s := S2x2048x1024) ![s.val, 0, 0] S1x2048x1024.size (wo_inb s)).toLoadRect (twiceO w)

def w1 (c : Dev nD) : S1024x2048.Idx → Elt F .f32 := m ((c : Thread nD τ).loc main_arg1)
def w2 (c : Dev nD) : S2048x1024.Idx → Elt F .f32 := m ((c : Thread nD τ).loc main_arg2)
def w3 (c : Dev nD) : S1024x2048.Idx → Elt F .f32 := m ((c : Thread nD τ).loc main_arg3)
def w4 (c : Dev nD) : S2048x1024.Idx → Elt F .f32 := m ((c : Thread nD τ).loc main_arg4)
def w5 (c : Dev nD) : S1024x2048.Idx → Elt F .f32 := m ((c : Thread nD τ).loc main_arg5)
def w6 (c : Dev nD) : S2048x1024.Idx → Elt F .f32 := m ((c : Thread nD τ).loc main_arg6)

/-- Device `c`'s partial results of the first layer. -/
def PS0 (c : Fin 32) : S64x1024.Idx → Elt F .bf16 := k0_pay3 (k0_pay2 (k0_pay1 (xstg m ρ c) (ldI (w1 m c) 0)) (ldO (w2 m c) 0))
/-- Device `c`'s reduced row pair of the first layer. -/
def RED0 (c : Fin 32) : S2x1024.Idx → Elt F .bf16 := k0_pay7 (k0_pay6 (gathered (PS0 m ρ) c))
/-- Device `c`'s partial results of the second layer. -/
def PS1 (c : Fin 32) : S64x1024.Idx → Elt F .bf16 := k0_pay8 (k0_pay4 (ldI (w3 m c) 1)) (k0_pay5 (ldO (w4 m c) 1)) (stacked (RED0 m ρ))
/-- Device `c`'s reduced row pair of the second layer. -/
def RED1 (c : Fin 32) : S2x1024.Idx → Elt F .bf16 := k0_pay12 (k0_pay11 (gathered (PS1 m ρ) c))
/-- Device `c`'s partial results of the third layer. -/
def PS2 (c : Fin 32) : S64x1024.Idx → Elt F .bf16 := k0_pay13 (k0_pay9 (ldI (w5 m c) 0)) (k0_pay10 (ldO (w6 m c) 0)) (stacked (RED1 m ρ))
/-- Device `c`'s rows of the result. -/
def outAt (c : Dev nD) : (cc0_stg1_0 : Ref sig .tc).ty.Contents (Elt F) := k0_pay14 (gathered (PS2 m ρ) c)

/-- The partial results of layer `k`. -/
def PS (k : ℕ) : Fin 32 → S64x1024.Idx → Elt F .bf16 := match k with | 0 => PS0 m ρ | 1 => PS1 m ρ | _ => PS2 m ρ
/-- The reduced row pairs of layer `k`. -/
def RED (k : ℕ) : Fin 32 → S2x1024.Idx → Elt F .bf16 := match k with | 0 => RED0 m ρ | _ => RED1 m ρ

/-! ## The points-tos of the pieces -/

def psPts (c : Dev nD) (s : Fin 32) (f : S64x1024.Idx → Elt F .bf16) : sProp 𝕄 :=
  ((c : Thread nD τ).loc cc0_scratch0) ↦[rowSet s]{fullShare} f
def pbPts (c : Dev nD) (p : Fin 32) (f : S32x2x1024.Idx → Elt F .bf16) : sProp 𝕄 :=
  ((c : Thread nD τ).loc cc0_scratch1) ↦[slotSet p]{fullShare} f
def xbPts (c : Dev nD) (p : Fin 32) (f : S64x1024.Idx → Elt F .bf16) : sProp 𝕄 :=
  ((c : Thread nD τ).loc cc0_scratch3) ↦[rowSet p]{fullShare} f
/-- One of 32 shares of the reduced row pair. -/
def agPts (c : Dev nD) (s : Fin 32) (f : S2x1024.Idx → Elt F .bf16) : sProp 𝕄 :=
  ((c : Thread nD τ).loc cc0_scratch2) ↦{Transfers.shareTok fullShare 32 s} f
def wiPts (c : Dev nD) (s : Fin 2) (f : S2x1024x2048.Idx → Elt F .f32) : sProp 𝕄 :=
  ((c : Thread nD τ).loc cc0_scratch4) ↦[wiSet s]{fullShare} f
def woPts (c : Dev nD) (s : Fin 2) (f : S2x2048x1024.Idx → Elt F .f32) : sProp 𝕄 :=
  ((c : Thread nD τ).loc cc0_scratch5) ↦[woSet s]{fullShare} f

instance (c s f) : BI.Storable (upEmb : UEmb _ 𝕄) (psPts (F := F) c s f) := by unfold psPts; infer_instance
instance (c s f) : BI.Storable (upEmb : UEmb _ 𝕄) (pbPts (F := F) c s f) := by unfold pbPts; infer_instance
instance (c s f) : BI.Storable (upEmb : UEmb _ 𝕄) (xbPts (F := F) c s f) := by unfold xbPts; infer_instance
instance (c s f) : BI.Storable (upEmb : UEmb _ 𝕄) (agPts (F := F) c s f) := by unfold agPts; infer_instance
instance (c s f) : BI.Storable (upEmb : UEmb _ 𝕄) (wiPts (F := F) c s f) := by unfold wiPts; infer_instance
instance (c s f) : BI.Storable (upEmb : UEmb _ 𝕄) (woPts (F := F) c s f) := by unfold woPts; infer_instance

/-! ## The schedule -/

/-- What device `d`'s signal hands device `c`: slot `c` of `d`'s landing buffer and row pair `c` of `d`'s activations. -/
def barPay (c d : Dev nD) : sProp 𝕄 := iprop((∃ f, pbPts (F := F) d c f) ∗ ∃ f, xbPts (F := F) d c f)
/-- Row pair `c` of the activations of `p`, held by `c` for the next send there. -/
def xbGrant (k : ℕ) (c p : Dev nD) : sProp 𝕄 :=
  if k = 1 then iprop((∃ f, xbPts (F := F) p c f) ∗ reached (ER (F := F)) (agC p c) 1) else iprop(emp)
/-- What arrives at `c` with `p`'s partial results of layer `k`: those, and the right to send `p` activations again. -/
def rsPay (k : ℕ) (c p : Dev nD) : sProp 𝕄 := iprop(pbPts c p (gathered (PS m ρ k) c) ∗ xbGrant (F := F) k c p)
/-- Slot `c` of the landing buffer of `p`, held by `c` for the next send there. -/
def pbGrant (k : ℕ) (c p : Dev nD) : sProp 𝕄 := iprop((∃ f, pbPts (F := F) p c f) ∗ reached (ER (F := F)) (rsC p c) (k + 1))
/-- What arrives at `c` with `p`'s reduced row pair of layer `k`: that, and the right to send `p` partial results again. -/
def agPay (k : ℕ) (c p : Dev nD) : sProp 𝕄 := iprop(xbPts c p (stacked (RED m ρ k)) ∗ pbGrant (F := F) k c p)
/-- What comes back once a send to `s` has left: its source. Rounds alternate between partial results and reduced pairs. -/
def sendPay (r : ℕ) (c : Dev nD) (s : Fin 32) : sProp 𝕄 :=
  if r % 2 = 0 then psPts c s (PS m ρ (r / 2) c) else agPts c s (RED m ρ (r / 2) c)
/-- What comes back once a weight copy is done: the slot with the weights. -/
def wPay (r : ℕ) (c : Dev nD) (q : Fin 4) : sProp 𝕄 :=
  match q with
  | 0 => wiPts c 0 (twiceI (if r = 0 then w1 m c else w5 m c))
  | 1 => woPts c 0 (twiceO (if r = 0 then w2 m c else w6 m c))
  | 2 => wiPts c 1 (twiceI (w3 m c))
  | 3 => woPts c 1 (twiceO (w4 m c))

/-- How many copies a weight semaphore sees. -/
def wRounds (q : Fin 4) : ℕ := if q.val < 2 then 2 else 1
def wAmt (q : Fin 4) : ℕ := if q.val % 2 = 0 then NI else NO

def dutiesOf (c : Dev nD) (r : ℕ) : Option Kind → Finset (Fin 32)
  | some kBar => if r = 0 then Finset.univ.erase c else ∅
  | some (.inr (oSend _)) => if r < 5 then {c} else ∅
  | some (.inr (oRs p)) => if r < 3 then {p} else ∅
  | some (.inr (oAg p)) => if r < 2 then {p} else ∅
  | some (.inr (oW q)) => if r < wRounds q then {c} else ∅
  | none => ∅
def amountOf : Option Kind → ℕ
  | some kBar => 1
  | some (.inr (oW q)) => wAmt q
  | _ => N
def payOf (c : Dev nD) (r : ℕ) (d : Fin 32) : Option Kind → sProp 𝕄
  | some kBar => barPay (F := F) c d
  | some (.inr (oSend s)) => sendPay m ρ r c s
  | some (.inr (oRs p)) => rsPay m ρ r c p
  | some (.inr (oAg p)) => agPay m ρ r c p
  | some (.inr (oW q)) => wPay m r c q
  | none => iprop(emp)

def sched : Rounds.Schedule (GSem nD τ sig) (Fin 32) 𝕄 where
  duties g r := if g.1.2 = .tc then dutiesOf g.1.1 r (cls g.2) else ∅
  unitless _ := False
  amount g _ _ := amountOf (cls g.2)
  payload g r d := payOf m ρ g.1.1 r d (cls g.2)
  amount_pos g _ _ _ := by
    unfold amountOf
    split
    · exact Nat.one_pos
    · unfold wAmt; split; exacts [NI_pos, NO_pos]
    · exact N_pos

instance sched_storable (g : GSem nD τ sig) (r : ℕ) (d : Fin 32) :
    BI.Storable (upEmb : UEmb _ 𝕄) ((sched (F := F) m ρ).payload g r d) := by
  show BI.Storable upEmb (payOf m ρ g.1.1 r d (cls g.2))
  unfold payOf barPay sendPay rsPay agPay xbGrant pbGrant wPay
  (repeat' split) <;> infer_instance

section Sched
variable (c : Dev nD) (p : Fin 32) (q : Fin 4) (r : ℕ) (d : Fin 32)

/-- The duties of a cell, by its kind. -/
theorem duties_kcell (k : Kind) : (sched (F := F) m ρ).duties (kcell (c, k)) r = dutiesOf c r (some k) := by
  dsimp only [sched, kcell]; rw [if_pos rfl, cls_csem]
/-- The amount of a payment to a cell, by its kind. -/
theorem amount_kcell (k : Kind) : (sched (F := F) m ρ).amount (kcell (c, k)) r d = amountOf (some k) := by
  dsimp only [sched, kcell]; rw [cls_csem]
/-- What a payment to a cell hands over, by its kind. -/
theorem payload_kcell (k : Kind) : (sched (F := F) m ρ).payload (kcell (c, k)) r d = payOf m ρ c r d (some k) := by
  dsimp only [sched, kcell]; rw [cls_csem]

/-- How many rounds a cell has. -/
def roundsOf : Kind → ℕ
  | kBar => 1
  | .inr (oSend _) => 5
  | .inr (oRs _) => 3
  | .inr (oAg _) => 2
  | .inr (oW q) => wRounds q

/-- After its last round a cell has no duties. -/
theorem duties_later (k : Kind) : ∀ r, roundsOf k ≤ r → (sched (F := F) m ρ).duties (kcell (c, k)) r = ∅ := by
  intro r hr
  rw [duties_kcell]
  match k, hr with
  | kBar, hr => exact if_neg (by simp only [roundsOf] at hr; omega)
  | .inr (oSend _), hr => exact if_neg (by simp only [roundsOf] at hr; omega)
  | .inr (oRs _), hr => exact if_neg (by simp only [roundsOf] at hr; omega)
  | .inr (oAg _), hr => exact if_neg (by simp only [roundsOf] at hr; omega)
  | .inr (oW _), hr => exact if_neg (by simp only [roundsOf] at hr; omega)

/-- All other devices pay a barrier. -/
theorem duties_bar : (sched (F := F) m ρ).duties (barC c) 0 = Finset.univ.erase c := duties_kcell m ρ c 0 kBar
/-- A device's own copy pays its send semaphore. -/
theorem duties_send (h : r < 5) : (sched (F := F) m ρ).duties (sendC c p) r = {c} := (duties_kcell m ρ c r (.inr (oSend p))).trans (if_pos h)
/-- Device `p` pays the semaphore for its partial results. -/
theorem duties_rs (h : r < 3) : (sched (F := F) m ρ).duties (rsC c p) r = {p} := (duties_kcell m ρ c r (.inr (oRs p))).trans (if_pos h)
/-- Device `p` pays the semaphore for its reduced row pair. -/
theorem duties_ag (h : r < 2) : (sched (F := F) m ρ).duties (agC c p) r = {p} := (duties_kcell m ρ c r (.inr (oAg p))).trans (if_pos h)
/-- A device's own copy pays its weight semaphore. -/
theorem duties_w (h : r < wRounds q) : (sched (F := F) m ρ).duties (wC c q) r = {c} := (duties_kcell m ρ c r (.inr (oW q))).trans (if_pos h)

/-- A signal counts one. -/
theorem amount_bar : (sched (F := F) m ρ).amount (barC c) r d = 1 := amount_kcell m ρ c r d kBar
/-- A departed copy counts a row pair. -/
theorem amount_send : (sched (F := F) m ρ).amount (sendC c p) r d = N := amount_kcell m ρ c r d (.inr (oSend p))
/-- Partial results count a row pair. -/
theorem amount_rs : (sched (F := F) m ρ).amount (rsC c p) r d = N := amount_kcell m ρ c r d (.inr (oRs p))
/-- A reduced row pair counts a row pair. -/
theorem amount_ag : (sched (F := F) m ρ).amount (agC c p) r d = N := amount_kcell m ρ c r d (.inr (oAg p))
/-- Weights count their size. -/
theorem amount_w : (sched (F := F) m ρ).amount (wC c q) r d = wAmt q := amount_kcell m ρ c r d (.inr (oW q))

/-- A barrier waits for 31 signals. -/
theorem expect_bar : (sched (F := F) m ρ).expect (barC c) 0 = 31 := by
  unfold Schedule.expect Schedule.amountOf
  rw [duties_bar, Finset.sum_congr rfl fun d _ => amount_bar m ρ c 0 d, Finset.sum_const, Finset.card_erase_of_mem (Finset.mem_univ _),
    Finset.card_univ, Fintype.card_fin, smul_eq_mul]
/-- A send semaphore waits for a row pair. -/
theorem expect_send (h : r < 5) : (sched (F := F) m ρ).expect (sendC c p) r = N := by
  unfold Schedule.expect Schedule.amountOf; rw [duties_send m ρ c p r h, Finset.sum_singleton, amount_send]
/-- A wait for partial results is for a row pair. -/
theorem expect_rs (h : r < 3) : (sched (F := F) m ρ).expect (rsC c p) r = N := by
  unfold Schedule.expect Schedule.amountOf; rw [duties_rs m ρ c p r h, Finset.sum_singleton, amount_rs]
/-- A wait for a reduced row pair is for a row pair. -/
theorem expect_ag (h : r < 2) : (sched (F := F) m ρ).expect (agC c p) r = N := by
  unfold Schedule.expect Schedule.amountOf; rw [duties_ag m ρ c p r h, Finset.sum_singleton, amount_ag]
/-- A wait for weights is for their size. -/
theorem expect_w (h : r < wRounds q) : (sched (F := F) m ρ).expect (wC c q) r = wAmt q := by
  unfold Schedule.expect Schedule.amountOf; rw [duties_w m ρ c q r h, Finset.sum_singleton, amount_w]

/-- What a signal hands over. -/
theorem payload_bar : (sched (F := F) m ρ).payload (barC c) r d = barPay (F := F) c d := payload_kcell m ρ c r d kBar
/-- What a departed copy hands back. -/
theorem payload_send : (sched (F := F) m ρ).payload (sendC c p) r d = sendPay m ρ r c p := payload_kcell m ρ c r d (.inr (oSend p))
/-- What arrived partial results hand over. -/
theorem payload_rs : (sched (F := F) m ρ).payload (rsC c p) r d = rsPay m ρ r c p := payload_kcell m ρ c r d (.inr (oRs p))
/-- What an arrived row pair hands over. -/
theorem payload_ag : (sched (F := F) m ρ).payload (agC c p) r d = agPay m ρ r c p := payload_kcell m ρ c r d (.inr (oAg p))
/-- What arrived weights hand over. -/
theorem payload_w : (sched (F := F) m ρ).payload (wC c q) r d = wPay m r c q := payload_kcell m ρ c r d (.inr (oW q))

/-- What a whole barrier hands over. -/
theorem rest_bar : bigSep ((sched (F := F) m ρ).duties (barC c) 0 \ ∅) (fun d => (sched (F := F) m ρ).payload (barC c) 0 d)
    = bigSep (Finset.univ.erase c) (fun d => barPay (F := F) c d) := by
  rw [Finset.sdiff_empty, duties_bar]; exact congrArg _ (funext fun d => payload_bar m ρ c 0 d)
/-- What a round of a send semaphore hands over. -/
theorem rest_send (h : r < 5) : bigSep ((sched (F := F) m ρ).duties (sendC c p) r \ ∅) (fun d => (sched (F := F) m ρ).payload (sendC c p) r d)
    = sendPay m ρ r c p := by rw [Finset.sdiff_empty, duties_send m ρ c p r h, bigSep_singleton, payload_send]
/-- What a round of arrived partial results hands over. -/
theorem rest_rs (h : r < 3) : bigSep ((sched (F := F) m ρ).duties (rsC c p) r \ ∅) (fun d => (sched (F := F) m ρ).payload (rsC c p) r d)
    = rsPay m ρ r c p := by rw [Finset.sdiff_empty, duties_rs m ρ c p r h, bigSep_singleton, payload_rs]
/-- What a round of arrived row pairs hands over. -/
theorem rest_ag (h : r < 2) : bigSep ((sched (F := F) m ρ).duties (agC c p) r \ ∅) (fun d => (sched (F := F) m ρ).payload (agC c p) r d)
    = agPay m ρ r c p := by rw [Finset.sdiff_empty, duties_ag m ρ c p r h, bigSep_singleton, payload_ag]
/-- What a round of arrived weights hands over. -/
theorem rest_w (h : r < wRounds q) : bigSep ((sched (F := F) m ρ).duties (wC c q) r \ ∅) (fun d => (sched (F := F) m ρ).payload (wC c q) r d)
    = wPay m r c q := by rw [Finset.sdiff_empty, duties_w m ρ c q r h, bigSep_singleton, payload_w]

end Sched

/-! ## What is owed, and the levels -/

/-- The device `i` places on. -/
def fwd (c : Dev nD) (i : Fin 32) : Dev nD := c + i

/-- What device `c` owes the barriers of the devices `i ∈ S` places on. -/
def barDue (c : Dev nD) (S : Finset (Fin 32)) : CellTallies nD τ sig ℕ := ∑ i ∈ S, tallyAt (barC (fwd c i)) 0 1
/-- What device `c` owes the devices of `S` in layer `k`'s exchange of partial results. -/
def rsDue (k : ℕ) (c : Dev nD) (S : Finset (Fin 32)) : CellTallies nD τ sig ℕ := ∑ s ∈ S, tallyAt (rsC s c) k N
/-- What device `c` owes the devices of `S` in layer `k`'s exchange of reduced row pairs. -/
def agDue (k : ℕ) (c : Dev nD) (S : Finset (Fin 32)) : CellTallies nD τ sig ℕ := ∑ s ∈ S, tallyAt (agC s c) k N

/-- What is owed once the partial results of the third layer are due; and before that, step by step. -/
def O5 (c : Dev nD) : CellTallies nD τ sig ℕ := 0 + rsDue 2 c Finset.univ
def O4 (c : Dev nD) : CellTallies nD τ sig ℕ := O5 c + agDue 1 c Finset.univ
def O3 (c : Dev nD) : CellTallies nD τ sig ℕ := O4 c + rsDue 1 c Finset.univ
def O2 (c : Dev nD) : CellTallies nD τ sig ℕ := O3 c + agDue 0 c Finset.univ
def O1 (c : Dev nD) : CellTallies nD τ sig ℕ := O2 c + rsDue 0 c Finset.univ
/-- What device `c` owes at the start. -/
def O₀ (c : Dev nD) : CellTallies nD τ sig ℕ := O1 c + barDue c (Finset.univ.erase 0)

def L (g : GSem nD τ sig) : Finset ℕ := if g.1.2 = .tc then Finset.range 3 else ∅
/-- Barriers at 1; the exchanges above, in the order of the program; all else at 0. -/
def lv (g : GSem nD τ sig) (u : ℕ) : ℕ := match cls g.2 with
  | some kBar => 1
  | some (.inr (oRs _)) => 2 + 2 * u
  | some (.inr (oAg _)) => 3 + 2 * u
  | _ => 0

/-- Only the devices' own threads have levels. -/
theorem L_of_ne (g : GSem nD τ sig) (h : g.1.2 ≠ .tc) : L g = ∅ := if_neg h
/-- On a device rounds 0, 1 and 2 have levels. -/
theorem L_tc (c : Dev nD) (sm : SemLoc sig) : L ((c : Thread nD τ), sm) = Finset.range 3 := if_pos rfl
/-- The barrier comes first. -/
theorem lv_bar (c : Dev nD) (u : ℕ) : lv (barC c) u = 1 := by unfold lv; rw [cls_bar]
/-- Partial results come after the broadcast of the layer before. -/
theorem lv_rs (c p : Dev nD) (u : ℕ) : lv (rsC c p) u = 2 + 2 * u := by unfold lv; rw [cls_rs]
/-- A broadcast comes after its layer's partial results. -/
theorem lv_ag (c p : Dev nD) (u : ℕ) : lv (agC c p) u = 3 + 2 * u := by unfold lv; rw [cls_ag]
/-- Departures wait on nobody. -/
theorem lv_send (c p : Dev nD) (u : ℕ) : lv (sendC c p) u = 0 := by unfold lv; rw [cls_send]
/-- Weights wait on nobody. -/
theorem lv_w (c : Dev nD) (q : Fin 4) (u : ℕ) : lv (wC c q) u = 0 := by unfold lv; rw [cls_w]

/-- Everything owed in `O` is above level `n`. -/
def Above (n : ℕ) (O : CellTallies nD τ sig ℕ) : Prop := ∀ g u, 0 < O g u → u ∈ L g ∧ n < lv g u

/-- Owing nothing is above every level. -/
theorem Above.zero (n : ℕ) : Above n 0 := fun g u h => absurd h (Nat.lt_irrefl 0)
/-- Two debts above a level are above it together. -/
theorem Above.add {n : ℕ} {O O' : CellTallies nD τ sig ℕ} (h : Above n O) (h' : Above n O') : Above n (O + O') := fun g u hg => by
  rw [Pi.add_apply, Finsupp.add_apply] at hg
  by_cases h0 : 0 < O g u
  · exact h g u h0
  · exact h' g u (by omega)
/-- Debts above a level are above it together. -/
theorem Above.sum {n : ℕ} {I : Type} (S : Finset I) (f : I → CellTallies nD τ sig ℕ) (h : ∀ i ∈ S, Above n (f i)) : Above n (∑ i ∈ S, f i) := by
  classical
  induction S using Finset.induction_on with
  | empty => rw [Finset.sum_empty]; exact Above.zero n
  | insert a S ha ih =>
    rw [Finset.sum_insert ha]
    exact (h a (Finset.mem_insert_self _ _)).add (ih fun i hi => h i (Finset.mem_insert_of_mem hi))
/-- A debt to one cell is above the levels below the cell's. -/
theorem Above.tally {n u N : ℕ} {g : GSem nD τ sig} (hu : u ∈ L g) (hn : n < lv g u) : Above n (tallyAt g u N) := fun g' u' hg => by
  rw [tallyAt_apply] at hg
  by_cases h : g' = g ∧ u' = u
  · rw [h.1, h.2]; exact ⟨hu, hn⟩
  · rw [if_neg h] at hg; exact absurd hg (Nat.lt_irrefl 0)
/-- What is above a level is above a lower one. -/
theorem Above.mono {n n' : ℕ} {O : CellTallies nD τ sig ℕ} (h : Above n O) (hn : n' ≤ n) : Above n' O := fun g u hg => ⟨(h g u hg).1, lt_of_le_of_lt hn (h g u hg).2⟩

/-- The partial results of a layer are owed above the levels before. -/
theorem above_rs (k : ℕ) (hk : k < 3) (c : Dev nD) (S : Finset (Fin 32)) : Above (1 + 2 * k) (rsDue k c S) :=
  Above.sum _ _ fun s _ => Above.tally (by rw [L_tc]; exact Finset.mem_range.mpr hk) (by rw [lv_rs]; omega)
/-- The row pairs of a layer are owed above the levels before. -/
theorem above_ag (k : ℕ) (hk : k < 3) (c : Dev nD) (S : Finset (Fin 32)) : Above (2 + 2 * k) (agDue k c S) :=
  Above.sum _ _ fun s _ => Above.tally (by rw [L_tc]; exact Finset.mem_range.mpr hk) (by rw [lv_ag]; omega)
/-- The barrier's signals are owed above level 0. -/
theorem above_bar (c : Dev nD) (S : Finset (Fin 32)) : Above 0 (barDue c S) :=
  Above.sum _ _ fun s _ => Above.tally (by rw [L_tc]; decide) (by rw [lv_bar]; omega)

/-- The partial results of the third layer are owed above level 5. -/
theorem above_O5 (c : Dev nD) : Above 5 (O5 c) := (Above.zero 5).add (above_rs 2 (by decide) c _)
/-- With the second broadcast also owed, all is above level 4. -/
theorem above_O4 (c : Dev nD) : Above 4 (O4 c) := ((above_O5 c).mono (by decide)).add (above_ag 1 (by decide) c _)
/-- With the second layer's partial results also owed, all is above level 3. -/
theorem above_O3 (c : Dev nD) : Above 3 (O3 c) := ((above_O4 c).mono (by decide)).add (above_rs 1 (by decide) c _)
/-- With the first broadcast also owed, all is above level 2. -/
theorem above_O2 (c : Dev nD) : Above 2 (O2 c) := ((above_O3 c).mono (by decide)).add (above_ag 0 (by decide) c _)
/-- With the first layer's partial results also owed, all is above level 1. -/
theorem above_O1 (c : Dev nD) : Above 1 (O1 c) := ((above_O2 c).mono (by decide)).add (above_rs 0 (by decide) c _)
/-- What is owed at the start is above level 0. -/
theorem above_O₀ (c : Dev nD) : Above 0 (O₀ c) := ((above_O1 c).mono (by decide)).add (above_bar c _)

/-- A wait at level `n` or below is allowed while all that is owed is above `n`. -/
theorem mayWait (c : Dev nD) (sm : SemLoc sig) (u n : ℕ) (O : CellTallies nD τ sig ℕ) (hu : u < 3) (hlv : lv ((c : Thread nD τ), sm) u ≤ n)
    (hO : Above n O) : (levAts L lv : sProp 𝕄) ⊢ MayWait (c : Thread nD τ) sm u O :=
  MayOwe.of_cut (L := L) (lev := lv) n (fun p hp => by rw [Finset.mem_singleton.mp hp, L_tc]; exact Finset.mem_range.mpr hu)
    (fun g u hg => (hO g u hg).1) (fun p hp => by rw [Finset.mem_singleton.mp hp]; exact hlv) (fun g u hg => (hO g u hg).2)

end Cert.KernelIdeal.Ring

end
-- ==== Proof.Steps.lean ====
module

public import proofs.«01_k».proof.Proof.Protocol

@[expose] public section

/-! # The steps of the loops

One rule for a loop over the peers, and for each loop of the body the rule of one step: what it takes and what it gives. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section BigSep
variable {M : Type} [URA M] {I : Type} [DecidableEq I] {Φ Ψ : I → sProp M}
/-- A separating conjunction over a set with one more element. -/
theorem bs_insert {i : I} {s : Finset I} (h : i ∉ s) : bigSep (insert i s) Φ = iprop(Φ i ∗ bigSep s Φ) := BI.bigSep_insert h
/-- One of the conjuncts. -/
theorem bs_elim {i : I} {s : Finset I} (h : i ∈ s) : bigSep s Φ ⊢ Φ i := BI.bigSep_elim h
/-- A conjunction over nothing. -/
theorem bs_empty : bigSep ∅ Φ = iprop(emp) := BI.bigSep_empty
/-- Conjunct by conjunct. -/
theorem bs_mono {s : Finset I} (h : ∀ i ∈ s, Φ i ⊢ Ψ i) : bigSep s Φ ⊢ bigSep s Ψ := BI.bigSep_mono h
/-- A conjunction of conjunctions. -/
theorem bs_sep (s : Finset I) : bigSep s (fun i => iprop(Φ i ∗ Ψ i)) = iprop(bigSep s Φ ∗ bigSep s Ψ) := BI.bigSep_sep s Φ Ψ
end BigSep

variable (m : (ℓ : Loc nD τ sig) → Buf (Elt F) ℓ) (ρ : Dev nD → PrngReg)

abbrev 𝒱₀ : Variants := Variants.none

/-! ## What every device knows -/

section Recs
variable (K : Dev nD × Kind → ℕ)

/-- Every cell's invariant, and that every cell has reached round 0. -/
def recs : sProp 𝕄 :=
  iprop(bigSep Finset.univ (fun ck : Dev nD × Kind => cellInv (ER (F := F)) (sched m ρ) (K ck) (kcell ck))
    ∗ bigSep Finset.univ (fun ck : Dev nD × Kind => reached (ER (F := F)) (kcell ck) 0))

instance recs_persistent : BI.Persistent (recs m ρ K) := by unfold recs; infer_instance

/-- The records hold each cell's invariant. -/
theorem recs_inv (c : Dev nD) (k : Kind) : recs m ρ K ⊢ cellInv (ER (F := F)) (sched m ρ) (K (c, k)) (kcell (c, k)) := by
  unfold recs
  iintro ⟨H, -⟩
  iapply (bs_elim (Φ := fun ck : Dev nD × Kind => cellInv (ER (F := F)) (sched m ρ) (K ck) (kcell ck)) (Finset.mem_univ (c, k))); iexact H
/-- The records say that each cell has reached round 0. -/
theorem recs_reached (c : Dev nD) (k : Kind) : recs m ρ K ⊢ reached (ER (F := F)) (kcell (c, k)) 0 := by
  unfold recs
  iintro ⟨-, H⟩
  iapply (bs_elim (Φ := fun ck : Dev nD × Kind => reached (ER (F := F)) (kcell ck) 0) (Finset.mem_univ (c, k))); iexact H

/-- The context of every step: the invariants and the levels. -/
def ctx : sProp 𝕄 := iprop(recs m ρ K ∗ levAts L lv)
instance ctx_persistent : BI.Persistent (ctx m ρ K) := by unfold ctx; infer_instance

/-- The context holds each cell's invariant. -/
theorem ctx_inv (c : Dev nD) (k : Kind) : ctx m ρ K ⊢ cellInv (ER (F := F)) (sched m ρ) (K (c, k)) (kcell (c, k)) := by
  unfold ctx; iintro ⟨H, -⟩; iapply (recs_inv m ρ K c k); iexact H
/-- The context says that each cell has reached round 0. -/
theorem ctx_reached (c : Dev nD) (k : Kind) : ctx m ρ K ⊢ reached (ER (F := F)) (kcell (c, k)) 0 := by
  unfold ctx; iintro ⟨H, -⟩; iapply (recs_reached m ρ K c k); iexact H

end Recs

/-! ## Loops -/

/-- An operation followed by more. -/
theorem op_bind {E : Type → Type} {α β γ : Type} (e : E β) (f : β → Prog E α) (k : α → Prog E γ) :
    (Prog.op e f).bind k = Prog.op e fun x => (f x).bind k := rfl
/-- A returned value followed by more. -/
theorem ret_bind {E : Type → Type} {α γ : Type} (a : α) (k : α → Prog E γ) : (Prog.ret a).bind k = k a := rfl
/-- A single operation followed by more. -/
theorem lift_bind {E : Type → Type} {β γ : Type} (e : E β) (k : β → Prog E γ) : (Prog.lift e).bind k = Prog.op e k := rfl

/-- The last `n` of 32 peers. -/
def last (n : ℕ) : Finset (Fin 32) := Finset.univ.filter fun s => 32 - n ≤ s.val
/-- The last none. -/
theorem last_zero : last 0 = ∅ := by decide
/-- The last 32 are all. -/
theorem last_all : last 32 = Finset.univ := by decide
/-- The last 31 are all but device 0. -/
theorem last_butone : last 31 = Finset.univ.erase 0 := by decide
/-- The device before the last `n` is not among them. -/
theorem last_not_mem (n : ℕ) (h : n + 1 ≤ 32) : (⟨32 - (n + 1), by omega⟩ : Fin 32) ∉ last n := by
  unfold last; rw [Finset.mem_filter]; rintro ⟨-, h'⟩; simp only at h'; omega
/-- The last `n + 1` are the last `n` and the one before. -/
theorem last_succ (n : ℕ) (h : n + 1 ≤ 32) : last (n + 1) = insert (⟨32 - (n + 1), by omega⟩ : Fin 32) (last n) := by
  ext s
  unfold last
  rw [Finset.mem_insert, Finset.mem_filter, Finset.mem_filter, Fin.ext_iff]
  simp only [Finset.mem_univ, true_and]
  have := s.isLt
  omega

section Wp
variable (c : Dev nD)

/-- A program's weakest precondition on device `c`. -/
abbrev WP {α : Type} (p : Prog (Eff F) α) (Q : α → sProp 𝕄) : sProp 𝕄 :=
  wp frame (wpE (defs₀ (F := F)) 𝒱₀ (c : Thread nD τ) none) Set.univ p Q

/-- A loop, from the rule of its step: the step turns `A i` into `B i` and `T (n+1)` into `T n`. -/
theorem wp_loop {α : Type} (M : ℕ) (hM : M ≤ 32) (f : Fin 32 → Prog (Eff F) PUnit) (A B : Fin 32 → sProp 𝕄) (T : ℕ → sProp 𝕄) (P : sProp 𝕄) [BI.Persistent P]
    (Q : α → sProp 𝕄)
    (hstep : ∀ n (h : n + 1 ≤ M) (k : PUnit → Prog (Eff F) α),
      iprop(P ∗ A ⟨32 - (n + 1), by omega⟩ ∗ T (n + 1))
        ⊢ iprop((B ⟨32 - (n + 1), by omega⟩ ∗ T n -∗ WP c (k ⟨⟩) Q) -∗ WP c ((f ⟨32 - (n + 1), by omega⟩).bind k) Q)) :
    ∀ n (h : n ≤ M) (k : PUnit → Prog (Eff F) α),
      iprop(P ∗ bigSep (last n) A ∗ T n) ⊢ iprop((bigSep (last n) B ∗ T 0 -∗ WP c (k ⟨⟩) Q) -∗ WP c ((loop f n (h.trans hM)).bind k) Q) := by
  intro n
  induction n with
  | zero =>
    intro h k
    rw [last_zero, bs_empty, bs_empty]
    iintro ⟨#HP, -, HT⟩ Hk
    rw [show (loop f 0 (h.trans hM)).bind k = k ⟨⟩ from rfl]
    iapply Hk
    isplitr; · iempintro
    iexact HT
  | succ n ih =>
    intro h k
    rw [show (loop f (n + 1) (h.trans hM)).bind k = (f ⟨32 - (n + 1), by omega⟩).bind fun _ => (loop f n (by omega)).bind k from
      Prog.bind_assoc _ _ _]
    rw [last_succ n (h.trans hM), bs_insert (last_not_mem n (h.trans hM)), bs_insert (last_not_mem n (h.trans hM))]
    iintro ⟨#HP, ⟨HA, HAs⟩, HT⟩ Hk
    iapply (hstep n h (fun _ => (loop f n _).bind k)) $$ [HA HT]
    · isplitr; · iexact HP
      isplitl [HA] <;> iassumption
    iintro ⟨HB, HT⟩
    iapply (ih (by omega) k) $$ [HAs HT]
    · isplitr; · iexact HP
      isplitl [HAs] <;> iassumption
    iintro ⟨HBs, HT⟩
    iapply Hk
    isplitl [HB HBs]
    · isplitl [HB] <;> iassumption
    iexact HT

variable (K : Dev nD × Kind → ℕ)

/-- What device `c` owes, whatever it has waited for. -/
def owing (O : CellTallies nD τ sig ℕ) : sProp 𝕄 := iprop(∃ W, owes (c : Thread nD τ) O W)

/-- A wait for the whole of a round of one of the device's own cells: its position moves on and the payloads come. -/
theorem wp_wait_kind {α : Type} (kd : Kind) (w : Eff F PUnit) (a r u n : ℕ) (O : CellTallies nD τ sig ℕ)
    (hw : ∀ Kc : PUnit → sProp 𝕄, wpE (defs₀ (F := F)) 𝒱₀ (c : Thread nD τ) none Set.univ w Kc = waitSpec (c : Thread nD τ) Set.univ (csem kd) a Kc)
    (hexp : (sched (F := F) m ρ).expect (kcell (c, kd)) r = a) (hu : u < 3) (hlv : lv (kcell (c, kd)) u ≤ n) (hO : Above n O)
    (k : PUnit → Prog (Eff F) α) (Q : α → sProp 𝕄) :
    iprop(ctx m ρ K ∗ (cred (tallyAt (kcell (c, kd)) u a) ∗ atPos (ER (F := F)) (kcell (c, kd)) r ∅ 0) ∗ owing c O)
      ⊢ iprop(((atPos (ER (F := F)) (kcell (c, kd)) (r + 1) ∅ 0 ∗ reached (ER (F := F)) (kcell (c, kd)) (r + 1)
            ∗ bigSep ((sched (F := F) m ρ).duties (kcell (c, kd)) r \ ∅) (fun d => (sched (F := F) m ρ).payload (kcell (c, kd)) r d)) ∗ owing c O
          -∗ WP c (k ⟨⟩) Q) -∗ WP c (.op w k) Q) := by
  unfold owing ctx
  iintro ⟨⟨#HP, #Hl⟩, ⟨Hc, Hat⟩, ⟨%W, HO⟩⟩ Hk
  ihave #HI := (recs_inv m ρ K c kd) $$ HP
  have hk : 0 + a = (sched (F := F) m ρ).expect ((c : Thread nD τ), csem kd) r := (Nat.zero_add _).trans hexp.symm
  iapply (Rounds.wp_wait_rest_token 𝒱₀ ER (sched m ρ) (c : Thread nD τ) none (κ := K (c, kd)) (sm := csem kd)
      hw (Set.mem_univ _) u (O := O) (W := W) (R := r) (m := 0) (T := ∅) hk) $$ [Hc HO Hat]
  · isplitr; · iexact HI
    isplitl [Hc]; · iexact Hc
    isplitl [HO]; · iexact HO
    isplitr; · iapply (mayWait c (csem kd) u n O hu hlv hO); iexact Hl
    iexact Hat
  iintro ⟨HO, Hat, Hr, Hpay⟩
  iapply Hk
  isplitr [HO]
  · isplitl [Hat]; · iexact Hat
    isplitl [Hr]; · iexact Hr
    iexact Hpay
  iexists _; iexact HO

/-- A wait on one of the device's own semaphores whose round has one payload. -/
theorem wp_wait_own {α : Type} (o : Own) (a r u n : ℕ) (O : CellTallies nD τ sig ℕ) (w : Eff F PUnit) (pay : sProp 𝕄)
    (hw : ∀ Kc : PUnit → sProp 𝕄, wpE (defs₀ (F := F)) 𝒱₀ (c : Thread nD τ) none Set.univ w Kc = waitSpec (c : Thread nD τ) Set.univ (osem o) a Kc)
    (hexp : (sched (F := F) m ρ).expect (kcell (c, .inr o)) r = a) (hu : u < 3) (hlv : lv (kcell (c, .inr o)) u ≤ n) (hO : Above n O)
    (hpay : bigSep ((sched (F := F) m ρ).duties (kcell (c, .inr o)) r \ ∅) (fun d => (sched (F := F) m ρ).payload (kcell (c, .inr o)) r d) = pay)
    (k : PUnit → Prog (Eff F) α) (Q : α → sProp 𝕄) :
    iprop(ctx m ρ K ∗ (cred (tallyAt (kcell (c, .inr o)) u a) ∗ atPos (ER (F := F)) (kcell (c, .inr o)) r ∅ 0) ∗ owing c O)
      ⊢ iprop(((atPos (ER (F := F)) (kcell (c, .inr o)) (r + 1) ∅ 0 ∗ reached (ER (F := F)) (kcell (c, .inr o)) (r + 1) ∗ pay) ∗ owing c O
          -∗ WP c (k ⟨⟩) Q) -∗ WP c ((Prog.lift w).bind k) Q) := by
  subst hpay
  exact wp_wait_kind m ρ c K (.inr o) w a r u n O hw hexp hu hlv hO k Q

/-! ## The steps -/

/-- What a signal to device `e` takes: its duty, slot `e` of the landing buffer and row pair `e` of the activations. -/
def sigIn (e : Dev nD) : sProp 𝕄 :=
  iprop(dutyTok (ER (F := F)) (barC e) 0 c ∗ (∃ f, pbPts (F := F) c e f) ∗ ∃ f, xbPts (F := F) c e f)

/-- Some steps on, fewer than 32, is another device. -/
theorem fwd_ne : ∀ (c : Dev nD) (i : Fin 32), i ≠ 0 → c ≠ fwd c i := by
  decide +kernel

/-- The `i`-th signal goes to the device `i` steps on, as a device. -/
theorem sig_dev (i : Fin 32) : (⟨sigDev i.val c, sigDev_lt i c⟩ : Dev nD) = fwd c i := Fin.ext (sigDev_eq i c)

/-- One of the barrier's signals, with the rest still to come. -/
theorem step_sig {α : Type} (R : CellTallies nD τ sig ℕ) (Q : α → sProp 𝕄) (n : ℕ) (h : n + 1 ≤ 31) (k : PUnit → Prog (Eff F) α) :
    iprop(ctx m ρ K ∗ sigIn (F := F) c (fwd c ⟨32 - (n + 1), by omega⟩) ∗ owing c (R + barDue c (last (n + 1))))
      ⊢ iprop((emp ∗ owing c (R + barDue c (last n)) -∗ WP c (k ⟨⟩) Q)
        -∗ WP c ((sigStep c ⟨32 - (n + 1), by omega⟩).bind k) Q) := by
  generalize hi : (⟨32 - (n + 1), by omega⟩ : Fin 32) = i
  have hi0 : i ≠ 0 := by rw [← hi]; intro h'; have := congrArg Fin.val h'; simp only [Fin.val_zero] at this; omega
  have hO : R + barDue c (last (n + 1)) = (R + barDue c (last n)) + tallyAt (barC (fwd c i)) 0 1 := by
    unfold barDue
    rw [last_succ n (by omega), Finset.sum_insert (last_not_mem n (by omega)), hi, add_comm (tallyAt _ _ _) (∑ i ∈ last n, _), add_assoc]
  rw [hO]
  unfold sigStep semSignalWord sigIn owing
  rw [sig_dev c i]
  rw [op_bind]
  simp only [ret_bind]
  iintro ⟨#HP, ⟨Ht, Hpb, Hxb⟩, ⟨%W, HO⟩⟩ Hk
  ihave #HI := (ctx_inv m ρ K (fwd c i) kBar) $$ HP
  ihave #Hr := (ctx_reached m ρ K (fwd c i) kBar) $$ HP
  iapply (Rounds.wp_signal 𝒱₀ ER (sched m ρ) (c : Thread nD τ) none (dst := (fwd c i : Thread nD τ)) (κ := K (fwd c i, kBar)) (r := 0)
      (d := c) (by rw [duties_bar]; exact Finset.mem_erase.mpr ⟨fwd_ne c i hi0, Finset.mem_univ _⟩)
      ((amount_bar m ρ (fwd c i) 0 c).trans (by decide)) 0 (R + barDue c (last n)) rfl)
    $$ [HO Ht Hpb Hxb]
  · isplitr; · iexact HI
    isplitl [HO]; · iexact HO
    isplitl [Ht]; · iexact Ht
    isplitl
    · rw [payload_bar]; unfold barPay
      isplitl [Hpb] <;> iassumption
    iexact Hr
  iintro HO
  iapply Hk
  isplitr; · iempintro
  iexists W; iexact HO

/-- A device's slot on its peers is the slot of its number. -/
theorem pbAt_own : (pbAt (k0_off2 c) (k0_off2_inb c)).view.set = slotSet c := by
  have : ∀ o h, o = ![c.val, 0, 0] → (pbAt o h).view.set = slotSet c := by rintro _ h rfl; exact pbSlot_set c
  exact this _ _ (k0_off2_eq c)
/-- The slot, once row pair `s` has landed there, holds what was to be gathered. -/
theorem pbAt_landed (X : S64x1024.Idx → Elt F .bf16) (Y : Fin 32 → S64x1024.Idx → Elt F .bf16) (hX : X = Y c) (s : Fin 32)
    (f : S32x2x1024.Idx → Elt F .bf16) (i : S32x2x1024.Idx) (hi : i ∈ (pbAt (k0_off2 c) (k0_off2_inb c)).view.set) :
    (pbAt (k0_off2 c) (k0_off2_inb c)).view.write (Elt F) f ((psRow s).view.read (Elt F) X) Finset.univ i = gathered Y s i := by
  have : ∀ o h, o = ![c.val, 0, 0] → i ∈ (pbAt o h).view.set →
      (pbAt o h).view.write (Elt F) f ((psRow s).view.read (Elt F) X) Finset.univ i = gathered Y s i := by
    rintro _ h rfl hi
    exact written_eq (pbSlot c).view (gathered Y s) f _ ((read_gathered Y s c).trans (by rw [hX])) i hi
  exact this _ _ (k0_off2_eq c) hi
/-- A device's rows on its peers are those of its number. -/
theorem xbAt_own : (xbAt (k0_off3 c) (k0_off3_inb c)).view.set = rowSet c := by
  have : ∀ o h, o = ![2 * c.val, 0] → (xbAt o h).view.set = rowSet c := by rintro _ h rfl; exact xbRow_set c
  exact this _ _ (k0_off3_eq c)
/-- The rows, once the reduced row pair has landed there, hold what was to be stacked. -/
theorem xbAt_landed (X : S2x1024.Idx → Elt F .bf16) (Y : Fin 32 → S2x1024.Idx → Elt F .bf16) (hX : X = Y c)
    (f : S64x1024.Idx → Elt F .bf16) (i : S64x1024.Idx) (hi : i ∈ (xbAt (k0_off3 c) (k0_off3_inb c)).view.set) :
    (xbAt (k0_off3 c) (k0_off3_inb c)).view.write (Elt F) f (agM.view.read (Elt F) X) Finset.univ i = stacked Y i := by
  have : ∀ o h, o = ![2 * c.val, 0] → i ∈ (xbAt o h).view.set →
      (xbAt o h).view.write (Elt F) f (agM.view.read (Elt F) X) Finset.univ i = stacked Y i := by
    rintro _ h rfl hi
    exact written_eq (xbRow c).view (stacked Y) f _ ((read_stacked Y c).trans (hX.symm.trans (show X = agM.view.read (Elt F) X from rfl))) i hi
  exact this _ _ (k0_off3_eq c) hi
/-- A device's semaphore on its peers is that of its number. -/
theorem semAt_own (a : DmaSems sig S32) : semAt a (k0_off1 c) (k0_off1_inb c) = semAt a ![c.val] (sem_inb c) := by
  have : ∀ o h, o = ![c.val] → semAt a o h = semAt a ![c.val] (sem_inb c) := by rintro _ h rfl; rfl
  exact this _ _ (k0_off1_eq c)

/-- What the send of row pair `s` takes: the pair, the slot it goes to, its two duties — and, with it, what it grants. -/
def rsIn (k : ℕ) (s : Fin 32) : sProp 𝕄 :=
  iprop(psPts c s (PS m ρ k c) ∗ (∃ f, pbPts (F := F) s c f) ∗ xbGrant (F := F) k s c
    ∗ dutyTok (ER (F := F)) (sendC c s) (2 * k) c ∗ reached (ER (F := F)) (sendC c s) (2 * k)
    ∗ dutyTok (ER (F := F)) (rsC s c) k c ∗ reached (ER (F := F)) (rsC s c) k)
/-- What a send leaves: the credit of its own semaphore. -/
def sent (s : Fin 32) : sProp 𝕄 := cred (tallyAt (sendC c s) 0 N)

/-- A copy of partial results counts a row pair. -/
theorem rs_amount (o h x) : (pbAt o h).view.amount (.dma x) = N := rfl
/-- A row pair of the partial results is what the send semaphore hands back. -/
theorem rs_src (kk : ℕ) (h2 : 2 * kk % 2 = 0) (hdiv : 2 * kk / 2 = kk) (s : Fin 32) :
    ((psRow s).view.loc (c : Thread nD τ) ↦[(psRow s).view.set]{fullShare} PS m ρ kk c) = sendPay m ρ (2 * kk) c s := by
  unfold sendPay psPts
  rw [if_pos h2, hdiv, psRow_set]
/-- The destination of partial results, once written, is what the receiver's semaphore hands over. -/
theorem rs_dst (kk : ℕ) (s : Fin 32) (f : S32x2x1024.Idx → Elt F .bf16) :
    ((pbAt (k0_off2 c) (k0_off2_inb c)).view.loc (s : Thread nD τ) ↦[(pbAt (k0_off2 c) (k0_off2_inb c)).view.set]{fullShare}
      ((pbAt (k0_off2 c) (k0_off2_inb c)).view.write (Elt F) f ((psRow s).view.read (Elt F) (PS m ρ kk c)) Finset.univ : S32x2x1024.Idx → Elt F .bf16))
    = pbPts s c (gathered (PS m ρ kk) s) := by
  rw [pointsTo_congr fun i hi => pbAt_landed c _ (PS m ρ kk) rfl s f i hi, pbAt_own]; rfl

/-- The cell of device `s` a send of device `c` arrives at, as the program names it. -/
theorem rs_cell (s : Fin 32) : (((s : Thread nD τ), .dma (semAt cc0_scratch7 (k0_off1 c) (k0_off1_inb c))) : GSem nD τ sig) = rsC s c := by
  rw [semAt_own]

/-- One copy of partial results: it pays the sender's duty and the receiver's. -/
theorem rs_send {α : Type} (kk : ℕ) (hkk : kk < 3) (R : CellTallies nD τ sig ℕ) (Q : α → sProp 𝕄) (s : Fin 32) (k : PUnit → Prog (Eff F) α) :
    iprop(ctx m ρ K ∗ rsIn m ρ c kk s ∗ owing c (R + tallyAt (rsC s c) kk N))
      ⊢ iprop((sent (F := F) c s ∗ owing c R -∗ WP c (k ⟨⟩) Q) -∗ WP c ((rsSend c s).bind k) Q) := by
  have h5 : 2 * kk < 5 := by omega
  unfold rsSend rsIn owing sent
  rw [lift_bind]
  have hd : c ∈ (sched m ρ).duties (rsC s c) kk := (duties_rs m ρ s c kk hkk).symm ▸ Finset.mem_singleton_self c
  have hk := amount_rs (F := F) m ρ s c kk c
  have hp : iprop(pbPts s c (gathered (PS m ρ kk) s) ∗ xbGrant (F := F) kk s c) ⊢ (sched m ρ).payload (rsC s c) kk c :=
    Entails.of_eq (payload_rs m ρ s c kk c).symm
  rw [← rs_cell] at hd hk hp ⊢
  iintro ⟨#HP, ⟨Hps, ⟨%f, Hpb⟩, Hg, Ht, #Hr, Ht', #Hr'⟩, ⟨%W, HO⟩⟩ Hk
  ihave #HI := (ctx_inv m ρ K c (.inr (oSend s))) $$ HP
  ihave #HI' := (ctx_inv m ρ K s (.inr (oRs c))) $$ HP
  have hs := (rs_src m ρ c kk (by omega) (by omega) s).trans (payload_send m ρ c s (2 * kk) c).symm
  have hp' := (sep_mono_left (Q := xbGrant (F := F) kk s c) (Entails.of_eq (rs_dst m ρ c kk s f))).trans hp
  iapply (Rounds.wp_send_pointsTo_with 𝒱₀ ER (sched m ρ) (c : Thread nD τ) none (κ₁ := K (c, .inr (oSend s))) (κ₂ := K (s, .inr (oRs c)))
      (src := psRow s) (dst := pbAt (k0_off2 c) (k0_off2_inb c)) (c' := (s : Thread nD τ))
      (sS := .dma (sendS s)) (sem := .dma (semAt cc0_scratch7 (k0_off1 c) (k0_off1_inb c)))
      (r₁ := 2 * kk) (r₂ := kk) (d₁ := c) (d₂ := c) (q := fullShare) (fs := PS m ρ kk c) (fd := f) (F := xbGrant (F := F) kk s c)
      (k := k) (Q := Q)
      ((duties_send m ρ c s _ h5).symm ▸ Finset.mem_singleton_self c)
      hd
      kk 0 N (rs_amount _ _ _) (amount_send m ρ c s (2 * kk) c) hk R rfl (W := W)
      (Entails.of_eq hs)
      hp' (Es := Set.univ) (hsc := rfl) (hsrc := (Memref.isWhole_whole cc0_scratch0).wordExact_slice rfl _ (ps_words s))
      (hdst := ((Memref.isWhole_whole cc0_scratch1).wordExact_slice rfl _ (k0_off2_wordsbf16 c)).reshape _ _)
      (hsem := ⟨⟨rfl, Or.inl rfl⟩, trivial⟩))
    $$ [Hps Hpb Hg Ht Ht' HO]
  · isplitr; · iexact HI
    isplitr; · rw [rs_cell]; iexact HI'
    isplitl [Hps]; · unfold psPts; rw [psRow_set]; iexact Hps
    isplitl [Hpb Hg]
    · isplitl [Hpb]; · unfold pbPts; rw [pbAt_own]; iexact Hpb
      iexact Hg
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- One of the copies of partial results, with the rest still to come. -/
theorem step_rsSend {α : Type} (kk : ℕ) (hkk : kk < 3) (R : CellTallies nD τ sig ℕ) (Q : α → sProp 𝕄) (n : ℕ) (h : n + 1 ≤ 32) (k : PUnit → Prog (Eff F) α) :
    iprop(ctx m ρ K ∗ rsIn m ρ c kk ⟨32 - (n + 1), by omega⟩ ∗ owing c (R + rsDue kk c (last (n + 1))))
      ⊢ iprop((sent (F := F) c ⟨32 - (n + 1), by omega⟩ ∗ owing c (R + rsDue kk c (last n)) -∗ WP c (k ⟨⟩) Q)
        -∗ WP c ((rsSend c ⟨32 - (n + 1), by omega⟩).bind k) Q) := by
  have hO : R + rsDue kk c (last (n + 1)) = (R + rsDue kk c (last n)) + tallyAt (rsC (⟨32 - (n + 1), by omega⟩ : Fin 32) c) kk N := by
    unfold rsDue
    rw [last_succ n (by omega), Finset.sum_insert (last_not_mem n (by omega)), add_comm (tallyAt _ _ _) (∑ i ∈ last n, _), add_assoc]
  rw [hO]
  exact rs_send m ρ c K kk hkk _ Q _ k

end Wp

end Cert.KernelIdeal.Ring

end
-- ==== Proof.Moves.lean ====
module

public import proofs.«01_k».proof.Proof.Steps

@[expose] public section

/-! # The other steps

The sends of the reduced row pairs, the waits of the five exchanges, the copies of the weights, and the loads and stores. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (c : Dev nD) (K : Dev nD × Kind → ℕ)

/-! ## The sends of the reduced row pairs -/

/-- What the send of the reduced row pair to device `s` takes. -/
def agIn (k : ℕ) (s : Fin 32) : sProp 𝕄 :=
  iprop(agPts c s (RED m ρ k c) ∗ (∃ f, xbPts (F := F) s c f) ∗ pbGrant (F := F) k s c
    ∗ dutyTok (ER (F := F)) (sendC c s) (2 * k + 1) c ∗ reached (ER (F := F)) (sendC c s) (2 * k + 1)
    ∗ dutyTok (ER (F := F)) (agC s c) k c ∗ reached (ER (F := F)) (agC s c) k)

/-- A broadcast copy counts a row pair. -/
theorem ag_amount (o h x) : (xbAt o h).view.amount (.dma x) = N := rfl
/-- A share of the reduced row pair is what the broadcast's send semaphore hands back. -/
theorem ag_src (kk : ℕ) (h2 : ¬ (2 * kk + 1) % 2 = 0) (hdiv : (2 * kk + 1) / 2 = kk) (s : Fin 32) :
    (agM.view.loc (c : Thread nD τ) ↦[agM.view.set]{Transfers.shareTok fullShare 32 s} RED m ρ kk c) = sendPay m ρ (2 * kk + 1) c s := by
  unfold sendPay agPts
  rw [if_neg h2, hdiv, agM_set]
/-- A broadcast copy's destination, once written, is what the receiver's semaphore hands over. -/
theorem ag_dst (kk : ℕ) (s : Fin 32) (f : S64x1024.Idx → Elt F .bf16) :
    ((xbAt (k0_off3 c) (k0_off3_inb c)).view.loc (s : Thread nD τ) ↦[(xbAt (k0_off3 c) (k0_off3_inb c)).view.set]{fullShare}
      ((xbAt (k0_off3 c) (k0_off3_inb c)).view.write (Elt F) f (agM.view.read (Elt F) (RED m ρ kk c)) Finset.univ : S64x1024.Idx → Elt F .bf16))
    = xbPts s c (stacked (RED m ρ kk)) := by
  rw [pointsTo_congr fun i hi => xbAt_landed c _ (RED m ρ kk) rfl f i hi, xbAt_own]; rfl
/-- The cell of device `s` a send of device `c` arrives at, as the program names it. -/
theorem ag_cell (s : Fin 32) : (((s : Thread nD τ), .dma (semAt cc0_scratch8 (k0_off1 c) (k0_off1_inb c))) : GSem nD τ sig) = agC s c := by
  rw [semAt_own]

/-- One broadcast copy: it pays the sender's duty and the receiver's. -/
theorem ag_send {α : Type} (kk : ℕ) (hkk : kk < 2) (R : CellTallies nD τ sig ℕ) (Q : α → sProp 𝕄) (s : Fin 32) (k : PUnit → Prog (Eff F) α) :
    iprop(ctx m ρ K ∗ agIn m ρ c kk s ∗ owing c (R + tallyAt (agC s c) kk N))
      ⊢ iprop((sent (F := F) c s ∗ owing c R -∗ WP c (k ⟨⟩) Q) -∗ WP c ((agSend c s).bind k) Q) := by
  have h5 : 2 * kk + 1 < 5 := by omega
  unfold agSend agIn owing sent
  rw [lift_bind]
  have hd : c ∈ (sched m ρ).duties (agC s c) kk := (duties_ag m ρ s c kk hkk).symm ▸ Finset.mem_singleton_self c
  have hk := amount_ag (F := F) m ρ s c kk c
  have hp : iprop(xbPts s c (stacked (RED m ρ kk)) ∗ pbGrant (F := F) kk s c) ⊢ (sched m ρ).payload (agC s c) kk c :=
    Entails.of_eq (payload_ag m ρ s c kk c).symm
  rw [← ag_cell] at hd hk hp ⊢
  iintro ⟨#HP, ⟨Hps, ⟨%f, Hpb⟩, Hg, Ht, #Hr, Ht', #Hr'⟩, ⟨%W, HO⟩⟩ Hk
  ihave #HI := (ctx_inv m ρ K c (.inr (oSend s))) $$ HP
  ihave #HI' := (ctx_inv m ρ K s (.inr (oAg c))) $$ HP
  have hs := (ag_src m ρ c kk (by omega) (by omega) s).trans (payload_send m ρ c s (2 * kk + 1) c).symm
  have hp' := (sep_mono_left (Q := pbGrant (F := F) kk s c) (Entails.of_eq (ag_dst m ρ c kk s f))).trans hp
  iapply (Rounds.wp_send_pointsTo_with 𝒱₀ ER (sched m ρ) (c : Thread nD τ) none (κ₁ := K (c, .inr (oSend s))) (κ₂ := K (s, .inr (oAg c)))
      (src := agM) (dst := xbAt (k0_off3 c) (k0_off3_inb c)) (c' := (s : Thread nD τ))
      (sS := .dma (sendS s)) (sem := .dma (semAt cc0_scratch8 (k0_off1 c) (k0_off1_inb c)))
      (r₁ := 2 * kk + 1) (r₂ := kk) (d₁ := c) (d₂ := c) (q := Transfers.shareTok fullShare 32 s) (fs := RED m ρ kk c) (fd := f) (F := pbGrant (F := F) kk s c)
      (k := k) (Q := Q)
      ((duties_send m ρ c s _ h5).symm ▸ Finset.mem_singleton_self c)
      hd
      kk 0 N (ag_amount _ _ _) (amount_send m ρ c s (2 * kk + 1) c) hk R rfl (W := W)
      (Entails.of_eq hs)
      hp' (Es := Set.univ) (hsc := rfl) (hsrc := (Memref.isWhole_whole cc0_scratch2).wordExact)
      (hdst := (Memref.isWhole_whole cc0_scratch3).wordExact_slice rfl _ (k0_off3_wordsbf16 c))
      (hsem := ⟨⟨rfl, Or.inl rfl⟩, trivial⟩))
    $$ [Hps Hpb Hg Ht Ht' HO]
  · isplitr; · iexact HI
    isplitr; · rw [ag_cell]; iexact HI'
    isplitl [Hps]; · unfold agPts; rw [agM_set]; iexact Hps
    isplitl [Hpb Hg]
    · isplitl [Hpb]; · unfold xbPts; rw [xbAt_own]; iexact Hpb
      iexact Hg
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- One of the broadcast copies, with the rest still to come. -/
theorem step_agSend {α : Type} (kk : ℕ) (hkk : kk < 2) (R : CellTallies nD τ sig ℕ) (Q : α → sProp 𝕄) (n : ℕ) (h : n + 1 ≤ 32) (k : PUnit → Prog (Eff F) α) :
    iprop(ctx m ρ K ∗ agIn m ρ c kk ⟨32 - (n + 1), by omega⟩ ∗ owing c (R + agDue kk c (last (n + 1))))
      ⊢ iprop((sent (F := F) c ⟨32 - (n + 1), by omega⟩ ∗ owing c (R + agDue kk c (last n)) -∗ WP c (k ⟨⟩) Q)
        -∗ WP c ((agSend c ⟨32 - (n + 1), by omega⟩).bind k) Q) := by
  have hO : R + agDue kk c (last (n + 1)) = (R + agDue kk c (last n)) + tallyAt (agC (⟨32 - (n + 1), by omega⟩ : Fin 32) c) kk N := by
    unfold agDue
    rw [last_succ n (by omega), Finset.sum_insert (last_not_mem n (by omega)), add_comm (tallyAt _ _ _) (∑ i ∈ last n, _), add_assoc]
  rw [hO]
  exact ag_send m ρ c K kk hkk _ Q _ k

/-! ## The waits of the exchanges -/

/-- A wait for a transfer is a wait for the transfer's credit. -/
theorem wait_spec {sp sp' : Space} {s s' : Shape} {e e' : EltTy} {sem : DmaSem sig} {src : Memref sig .tc sp' s' e'} {dst : Memref sig .tc sp s e}
    {hsrc : src.view.WordExact} {hdst : dst.view.WordExact} {a : ℕ} (ha : dst.view.dmaCredit = a) (Kc : PUnit → sProp 𝕄) :
    wpE (defs₀ (F := F)) 𝒱₀ (c : Thread nD τ) none Set.univ (.waitDma2 sem src dst hsrc hdst) Kc = waitSpec (c : Thread nD τ) Set.univ (.dma sem) a Kc := by
  subst ha; rfl
/-- A row pair to be sent counts a row pair. -/
theorem ps_credit (o h) : (psAt o h).view.dmaCredit = N := rfl
/-- A slot for received partial results counts a row pair. -/
theorem pb_credit (o h) : (pbAt o h).view.dmaCredit = N := rfl
/-- A row pair of the gathered activations counts a row pair. -/
theorem xb_credit (o h) : (xbAt o h).view.dmaCredit = N := rfl

/-- The wait for device `p`'s partial results of layer `kk`. -/
theorem rs_recv {α : Type} (kk : ℕ) (hkk : kk < 3) (O : CellTallies nD τ sig ℕ) (hO : Above (2 + 2 * kk) O) (Q : α → sProp 𝕄) (p : Fin 32) (k : PUnit → Prog (Eff F) α) :
    iprop(ctx m ρ K ∗ (cred (tallyAt (rsC c p) kk N) ∗ atPos (ER (F := F)) (rsC c p) kk ∅ 0) ∗ owing c O)
      ⊢ iprop(((atPos (ER (F := F)) (rsC c p) (kk + 1) ∅ 0 ∗ reached (ER (F := F)) (rsC c p) (kk + 1) ∗ rsPay m ρ kk c p) ∗ owing c O
          -∗ WP c (k ⟨⟩) Q) -∗ WP c ((rsRecv p).bind k) Q) := by
  unfold rsRecv
  exact wp_wait_own m ρ c K (oRs p) N kk kk (2 + 2 * kk) O _ (rsPay m ρ kk c p) (wait_spec c (pb_credit _ _))
    (expect_rs m ρ c p kk hkk) hkk (le_of_eq (lv_rs c p kk)) hO (rest_rs m ρ c p kk hkk) k Q

/-- The wait for device `p`'s reduced row pair of layer `kk`. -/
theorem ag_recv {α : Type} (kk : ℕ) (hkk : kk < 2) (O : CellTallies nD τ sig ℕ) (hO : Above (3 + 2 * kk) O) (Q : α → sProp 𝕄) (p : Fin 32) (k : PUnit → Prog (Eff F) α) :
    iprop(ctx m ρ K ∗ (cred (tallyAt (agC c p) kk N) ∗ atPos (ER (F := F)) (agC c p) kk ∅ 0) ∗ owing c O)
      ⊢ iprop(((atPos (ER (F := F)) (agC c p) (kk + 1) ∅ 0 ∗ reached (ER (F := F)) (agC c p) (kk + 1) ∗ agPay m ρ kk c p) ∗ owing c O
          -∗ WP c (k ⟨⟩) Q) -∗ WP c ((agRecv p).bind k) Q) := by
  unfold agRecv
  exact wp_wait_own m ρ c K (oAg p) N kk kk (3 + 2 * kk) O _ (agPay m ρ kk c p) (wait_spec c (xb_credit _ _))
    (expect_ag m ρ c p kk hkk) (by omega) (le_of_eq (lv_ag c p kk)) hO (rest_ag m ρ c p kk hkk) k Q

/-- The wait for the send of row pair `s`, in round `r` of its semaphore. -/
theorem rs_done {α : Type} (r : ℕ) (hr : r < 5) (O : CellTallies nD τ sig ℕ) (hO : Above 0 O) (Q : α → sProp 𝕄) (s : Fin 32) (k : PUnit → Prog (Eff F) α) :
    iprop(ctx m ρ K ∗ (sent (F := F) c s ∗ atPos (ER (F := F)) (sendC c s) r ∅ 0) ∗ owing c O)
      ⊢ iprop(((atPos (ER (F := F)) (sendC c s) (r + 1) ∅ 0 ∗ reached (ER (F := F)) (sendC c s) (r + 1) ∗ sendPay m ρ r c s) ∗ owing c O
          -∗ WP c (k ⟨⟩) Q) -∗ WP c ((rsDone c s).bind k) Q) := by
  unfold rsDone
  exact wp_wait_own m ρ c K (oSend s) N r 0 0 O _ (sendPay m ρ r c s) (wait_spec c (ps_credit _ _))
    (expect_send m ρ c s r hr) (by decide) (le_of_eq (lv_send c s 0)) hO (rest_send m ρ c s r hr) k Q

/-- The wait for the send of the reduced row pair to device `s`, in round `r` of its semaphore. -/
theorem ag_done {α : Type} (r : ℕ) (hr : r < 5) (O : CellTallies nD τ sig ℕ) (hO : Above 0 O) (Q : α → sProp 𝕄) (s : Fin 32) (k : PUnit → Prog (Eff F) α) :
    iprop(ctx m ρ K ∗ (sent (F := F) c s ∗ atPos (ER (F := F)) (sendC c s) r ∅ 0) ∗ owing c O)
      ⊢ iprop(((atPos (ER (F := F)) (sendC c s) (r + 1) ∅ 0 ∗ reached (ER (F := F)) (sendC c s) (r + 1) ∗ sendPay m ρ r c s) ∗ owing c O
          -∗ WP c (k ⟨⟩) Q) -∗ WP c ((agDone c s).bind k) Q) :=
  wp_wait_own m ρ c K (oSend s) N r 0 0 O _ (sendPay m ρ r c s) (wpE_waitDma2_eq 𝒱₀ (c : Thread nD τ) none Set.univ)
    (expect_send m ρ c s r hr) (by decide) (le_of_eq (lv_send c s 0)) hO (rest_send m ρ c s r hr) k Q

/-! ## The weights -/

/-- What a copy of weights takes of its semaphore. -/
def wIn (q : Fin 4) (r : ℕ) : sProp 𝕄 := iprop(dutyTok (ER (F := F)) (wC c q) r c ∗ reached (ER (F := F)) (wC c q) r)

/-- Starting the copy of first weights into a slot. -/
theorem wi_copy {α : Type} (a : Memref sig .tc .hbm S1024x2048 .f32) (ha : a.IsWhole) (sh : PosShare TreeShare) (g : Buf (Elt F) (a.view.loc (c : Thread nD τ)))
    (w : S1024x2048.Idx → Elt F .f32) (s : Fin 2) (q : Fin 4) (r : ℕ) (hr : r < wRounds q) (hq : wAmt q = NI) (hg : a.view.read (Elt F) g = w)
    (hpay : wPay m r c q = wiPts c s (twiceI w)) (Q : α → sProp 𝕄) (k : PUnit → Prog (Eff F) α) :
    iprop(ctx m ρ K ∗ (a.view.loc (c : Thread nD τ) ↦[a.view.set]{sh} g) ∗ (∃ f, wiPts (F := F) c s f) ∗ wIn (F := F) c q r)
      ⊢ iprop((cred (tallyAt (wC c q) 0 (wAmt q)) -∗ WP c (k ⟨⟩) Q) -∗ WP c ((wiCopy a ha s q).bind k) Q) := by
  unfold wiCopy wIn
  rw [lift_bind]
  iintro ⟨#HP, Hs, ⟨%f, Hd⟩, Ht, Hr⟩ Hk
  ihave #HI := (ctx_inv m ρ K c (.inr (oW q))) $$ HP
  have hw : ((wiAt s).view.loc (c : Thread nD τ) ↦[(wiAt s).view.set]{fullShare} ((wiAt s).view.write (Elt F) f (a.view.read (Elt F) g) Finset.univ : S2x1024x2048.Idx → Elt F .f32))
      = (sched m ρ).payload (wC c q) r c := by
    rw [payload_w, hpay, pointsTo_congr fun i hi => written_eq (wiAt s).view (twiceI w) f _ ((read_twiceI w s).trans hg.symm) i hi, wiAt_set]; rfl
  iapply (Rounds.wp_copy_pointsTo 𝒱₀ ER (sched m ρ) (c : Thread nD τ) none (κ := K (c, .inr (oW q))) (src := a) (dst := wiAt s) (sem := .dma (wS q))
      (q := sh) (fs := g) (fd := f) (r := r) (d := c) (k := k) (Q := Q)
      ((duties_w m ρ c q r hr).symm ▸ Finset.mem_singleton_self c) 0 (wAmt q) hq.symm (amount_w m ρ c q r c)
      (sep_elim_left.trans (Entails.of_eq hw)) (Es := Set.univ)) $$ [Hs Hd Ht Hr]
  · isplitr; · iexact HI
    isplitl [Hs]; · iexact Hs
    isplitl [Hd]; · unfold wiPts; rw [wiAt_set]; iexact Hd
    isplitl [Ht]; · iexact Ht
    iexact Hr
  iexact Hk

/-- Starting the copy of second weights into a slot. -/
theorem wo_copy {α : Type} (a : Memref sig .tc .hbm S2048x1024 .f32) (ha : a.IsWhole) (sh : PosShare TreeShare) (g : Buf (Elt F) (a.view.loc (c : Thread nD τ)))
    (w : S2048x1024.Idx → Elt F .f32) (s : Fin 2) (q : Fin 4) (r : ℕ) (hr : r < wRounds q) (hq : wAmt q = NO) (hg : a.view.read (Elt F) g = w)
    (hpay : wPay m r c q = woPts c s (twiceO w)) (Q : α → sProp 𝕄) (k : PUnit → Prog (Eff F) α) :
    iprop(ctx m ρ K ∗ (a.view.loc (c : Thread nD τ) ↦[a.view.set]{sh} g) ∗ (∃ f, woPts (F := F) c s f) ∗ wIn (F := F) c q r)
      ⊢ iprop((cred (tallyAt (wC c q) 0 (wAmt q)) -∗ WP c (k ⟨⟩) Q) -∗ WP c ((woCopy a ha s q).bind k) Q) := by
  unfold woCopy wIn
  rw [lift_bind]
  iintro ⟨#HP, Hs, ⟨%f, Hd⟩, Ht, Hr⟩ Hk
  ihave #HI := (ctx_inv m ρ K c (.inr (oW q))) $$ HP
  have hw : ((woAt s).view.loc (c : Thread nD τ) ↦[(woAt s).view.set]{fullShare} ((woAt s).view.write (Elt F) f (a.view.read (Elt F) g) Finset.univ : S2x2048x1024.Idx → Elt F .f32))
      = (sched m ρ).payload (wC c q) r c := by
    rw [payload_w, hpay, pointsTo_congr fun i hi => written_eq (woAt s).view (twiceO w) f _ ((read_twiceO w s).trans hg.symm) i hi, woAt_set]; rfl
  iapply (Rounds.wp_copy_pointsTo 𝒱₀ ER (sched m ρ) (c : Thread nD τ) none (κ := K (c, .inr (oW q))) (src := a) (dst := woAt s) (sem := .dma (wS q))
      (q := sh) (fs := g) (fd := f) (r := r) (d := c) (k := k) (Q := Q)
      ((duties_w m ρ c q r hr).symm ▸ Finset.mem_singleton_self c) 0 (wAmt q) hq.symm (amount_w m ρ c q r c)
      (sep_elim_left.trans (Entails.of_eq hw)) (Es := Set.univ)) $$ [Hs Hd Ht Hr]
  · isplitr; · iexact HI
    isplitl [Hs]; · iexact Hs
    isplitl [Hd]; · unfold woPts; rw [woAt_set]; iexact Hd
    isplitl [Ht]; · iexact Ht
    iexact Hr
  iexact Hk

/-- Waiting for first weights: the slot holds them afterwards, and the array's share is back. -/
theorem wi_wait {α : Type} (a : Memref sig .tc .hbm S1024x2048 .f32) (ha : a.IsWhole) (s : Fin 2) (q : Fin 4) (r : ℕ) (hr : r < wRounds q) (hq : NI = wAmt q)
    (O : CellTallies nD τ sig ℕ) (hO : Above 0 O) (Q : α → sProp 𝕄) (k : PUnit → Prog (Eff F) α) :
    iprop(ctx m ρ K ∗ (cred (tallyAt (wC c q) 0 (wAmt q)) ∗ atPos (ER (F := F)) (wC c q) r ∅ 0) ∗ owing c O)
      ⊢ iprop(((atPos (ER (F := F)) (wC c q) (r + 1) ∅ 0 ∗ reached (ER (F := F)) (wC c q) (r + 1) ∗ wPay m r c q) ∗ owing c O
          -∗ WP c (k ⟨⟩) Q) -∗ WP c ((wiWait a ha s q).bind k) Q) :=
  wp_wait_own m ρ c K (oW q) (wAmt q) r 0 0 O _ (wPay m r c q) (hq ▸ wpE_waitDma2_eq 𝒱₀ (c : Thread nD τ) none Set.univ)
    (expect_w m ρ c q r hr) (by decide) (le_of_eq (lv_w c q 0)) hO (rest_w m ρ c q r hr) k Q

/-- Waiting for second weights: the slot holds them afterwards, and the array's share is back. -/
theorem wo_wait {α : Type} (a : Memref sig .tc .hbm S2048x1024 .f32) (ha : a.IsWhole) (s : Fin 2) (q : Fin 4) (r : ℕ) (hr : r < wRounds q) (hq : NO = wAmt q)
    (O : CellTallies nD τ sig ℕ) (hO : Above 0 O) (Q : α → sProp 𝕄) (k : PUnit → Prog (Eff F) α) :
    iprop(ctx m ρ K ∗ (cred (tallyAt (wC c q) 0 (wAmt q)) ∗ atPos (ER (F := F)) (wC c q) r ∅ 0) ∗ owing c O)
      ⊢ iprop(((atPos (ER (F := F)) (wC c q) (r + 1) ∅ 0 ∗ reached (ER (F := F)) (wC c q) (r + 1) ∗ wPay m r c q) ∗ owing c O
          -∗ WP c (k ⟨⟩) Q) -∗ WP c ((woWait a ha s q).bind k) Q) :=
  wp_wait_own m ρ c K (oW q) (wAmt q) r 0 0 O _ (wPay m r c q) (hq ▸ wpE_waitDma2_eq 𝒱₀ (c : Thread nD τ) none Set.univ)
    (expect_w m ρ c q r hr) (by decide) (le_of_eq (lv_w c q 0)) hO (rest_w m ρ c q r hr) k Q

/-! ## Loads and stores -/

/-- Two zero offsets are zero everywhere. -/
theorem hz2 : (![0, 0] : Fin 2 → Nat) = fun _ => 0 := by funext a; match a with | ⟨0, _⟩ => rfl | ⟨1, _⟩ => rfl
/-- Three zero offsets are zero everywhere. -/
theorem hz3 : (![0, 0, 0] : Fin 3 → Nat) = fun _ => 0 := by funext a; match a with | ⟨0, _⟩ => rfl | ⟨1, _⟩ => rfl | ⟨2, _⟩ => rfl

/-- A whole buffer of device `c` at some contents. -/
abbrev whole (b : Ref sig .tc) (f : Buf (Elt F) ((c : Thread nD τ).loc b)) : sProp 𝕄 := ((c : Thread nD τ).loc b) ↦{fullShare} f

/-- Loading a slot of first weights that holds `w`. -/
theorem wi_load {α : Type} (s : Fin 2) (w : S1024x2048.Idx → Elt F .f32) (Q : α → sProp 𝕄) (k : Vec F S1x1024x2048 .f32 → Prog (Eff F) α) :
    wiPts c s (twiceI w) ⊢ iprop((wiPts c s (twiceI w) -∗ WP c (k (ldI w s)) Q) -∗ WP c ((wiLoad s).bind k) Q) := by
  unfold wiLoad wiPts
  rw [lift_bind]
  iintro H Hk
  iapply (wp_load 𝒱₀ (c : Thread nD τ) none Set.univ (m := wiM) (S := wiSet s) (q := fullShare) (f := twiceI w)
    (fun i hi => by obtain ⟨x, hx, rfl⟩ := Finset.mem_map.mp hi; exact hx)) $$ [H]
  · iexact H
  iexact Hk

/-- Loading a slot of second weights that holds `w`. -/
theorem wo_load {α : Type} (s : Fin 2) (w : S2048x1024.Idx → Elt F .f32) (Q : α → sProp 𝕄) (k : Vec F S1x2048x1024 .f32 → Prog (Eff F) α) :
    woPts c s (twiceO w) ⊢ iprop((woPts c s (twiceO w) -∗ WP c (k (ldO w s)) Q) -∗ WP c ((woLoad s).bind k) Q) := by
  unfold woLoad woPts
  rw [lift_bind]
  iintro H Hk
  iapply (wp_load 𝒱₀ (c : Thread nD τ) none Set.univ (m := woM) (S := woSet s) (q := fullShare) (f := twiceO w)
    (fun i hi => by obtain ⟨x, hx, rfl⟩ := Finset.mem_map.mp hi; exact hx)) $$ [H]
  · iexact H
  iexact Hk

/-- Loading all the received partial results. -/
theorem pb_load {α : Type} (f : S32x2x1024.Idx → Elt F .bf16) (Q : α → sProp 𝕄) (k : Vec F S32x2x1024 .bf16 → Prog (Eff F) α) :
    whole c cc0_scratch1 f ⊢ iprop((whole c cc0_scratch1 f -∗ WP c (k f) Q) -∗ WP c (pbLoad.bind k) Q) := by
  unfold pbLoad
  rw [lift_bind]
  iintro H Hk
  iapply (wp_load 𝒱₀ (c : Thread nD τ) none Set.univ (m := pbM) (S := Finset.univ) (q := fullShare) (f := f) (Finset.subset_univ _)) $$ [H]
  · iexact H
  iintro H
  rw [show pbM.view.readAt (Elt F) (Rect.unit (s := S32x2x1024) ![0, 0, 0] S32x2x1024.size inb_S32x2x1024_S32x2x1024_0_0_0).toLoadRect f = f from
    Memref.readAt_unit_zero (Elt F) cc0_scratch1 hz3 _ f]
  iapply Hk; iexact H

/-- Loading the gathered activations. -/
theorem xb_load {α : Type} (f : S64x1024.Idx → Elt F .bf16) (Q : α → sProp 𝕄) (k : Vec F S64x1024 .bf16 → Prog (Eff F) α) :
    whole c cc0_scratch3 f ⊢ iprop((whole c cc0_scratch3 f -∗ WP c (k f) Q) -∗ WP c (xbLoad.bind k) Q) := by
  unfold xbLoad
  rw [lift_bind]
  iintro H Hk
  iapply (wp_load 𝒱₀ (c : Thread nD τ) none Set.univ (m := xbM) (S := Finset.univ) (q := fullShare) (f := f) (Finset.subset_univ _)) $$ [H]
  · iexact H
  iintro H
  rw [show xbM.view.readAt (Elt F) (Rect.unit (s := S64x1024) ![0, 0] S64x1024.size inb_S64x1024_S64x1024_0_0).toLoadRect f = f from
    Memref.readAt_unit_zero (Elt F) cc0_scratch3 hz2 _ f]
  iapply Hk; iexact H

/-- Storing the partial results. -/
theorem ps_store {α : Type} (f v : S64x1024.Idx → Elt F .bf16) (Q : α → sProp 𝕄) (k : PUnit → Prog (Eff F) α) :
    whole c cc0_scratch0 f ⊢ iprop((whole c cc0_scratch0 v -∗ WP c (k ⟨⟩) Q) -∗ WP c ((psStore v).bind k) Q) := by
  unfold psStore
  simp only [lift_bind, op_bind]
  iintro H Hk
  iapply (wp_load 𝒱₀ (c : Thread nD τ) none Set.univ (m := psM) (S := Finset.univ) (q := fullShare) (f := f) (Finset.subset_univ _)) $$ [H]
  · iexact H
  iintro H
  iapply (wp_store 𝒱₀ (c : Thread nD τ) none Set.univ (m := psM) (r := Rect.unit (s := S64x1024) ![0, 0] S64x1024.size inb_S64x1024_S64x1024_0_0) (Mk := Finset.univ)
    (S := Finset.univ) (f := f) (w := v) (Finset.subset_univ _)) $$ [H]
  · iexact H
  iintro H
  iapply Hk
  rw [show ((psM.access (Rect.unit (s := S64x1024) ![0, 0] S64x1024.size inb_S64x1024_S64x1024_0_0)).write (Elt F) f v Finset.univ : S64x1024.Idx → Elt F .bf16) = v from
    Memref.write_access_unit_zero_univ (Elt F) cc0_scratch0 hz2 _ f v]
  iexact H

/-- Storing the reduced row pair. -/
theorem ag_store {α : Type} (f v : S2x1024.Idx → Elt F .bf16) (Q : α → sProp 𝕄) (k : PUnit → Prog (Eff F) α) :
    whole c cc0_scratch2 f ⊢ iprop((whole c cc0_scratch2 v -∗ WP c (k ⟨⟩) Q) -∗ WP c ((agStore v).bind k) Q) := by
  unfold agStore
  simp only [lift_bind, op_bind]
  iintro H Hk
  iapply (wp_load 𝒱₀ (c : Thread nD τ) none Set.univ (m := agM) (S := Finset.univ) (q := fullShare) (f := f) (Finset.subset_univ _)) $$ [H]
  · iexact H
  iintro H
  iapply (wp_store 𝒱₀ (c : Thread nD τ) none Set.univ (m := agM) (r := Rect.unit (s := S2x1024) ![0, 0] S2x1024.size inb_S2x1024_S2x1024_0_0) (Mk := Finset.univ)
    (S := Finset.univ) (f := f) (w := v) (Finset.subset_univ _)) $$ [H]
  · iexact H
  iintro H
  iapply Hk
  rw [show ((agM.access (Rect.unit (s := S2x1024) ![0, 0] S2x1024.size inb_S2x1024_S2x1024_0_0)).write (Elt F) f v Finset.univ : S2x1024.Idx → Elt F .bf16) = v from
    Memref.write_access_unit_zero_univ (Elt F) cc0_scratch2 hz2 _ f v]
  iexact H

/-- Storing the result. -/
theorem out_store (f v : S2x1024.Idx → Elt F .f32) (Q : PUnit → sProp 𝕄) :
    iprop(whole c cc0_stg1_0 f ∗ (whole c cc0_stg1_0 v -∗ Q ⟨⟩)) ⊢ WP c (outStore (Memref.whole cc0_stg1_0) v) Q := by
  unfold outStore
  rw [lift_bind]
  iintro ⟨H, Hk⟩
  iapply (wp_load 𝒱₀ (c : Thread nD τ) none Set.univ (m := Memref.whole cc0_stg1_0) (S := Finset.univ) (q := fullShare) (f := f) (Finset.subset_univ _)) $$ [H]
  · iexact H
  iintro H
  unfold Prog.lift
  iapply (wp_store 𝒱₀ (c : Thread nD τ) none Set.univ (m := Memref.whole cc0_stg1_0) (r := Rect.unit (s := S2x1024) ![0, 0] S2x1024.size inb_S2x1024_S2x1024_0_0) (Mk := Finset.univ)
    (S := Finset.univ) (f := f) (w := v) (Finset.subset_univ _)) $$ [H]
  · iexact H
  iintro H
  rw [show (((Memref.whole cc0_stg1_0).access (Rect.unit (s := S2x1024) ![0, 0] S2x1024.size inb_S2x1024_S2x1024_0_0)).write (Elt F) f v Finset.univ : S2x1024.Idx → Elt F .f32) = v from
    Memref.write_access_unit_zero_univ (Elt F) cc0_stg1_0 hz2 _ f v]
  rw [wp_ret]
  imodintro
  iapply Hk; iexact H

end Cert.KernelIdeal.Ring

end
-- ==== Proof.Phases.lean ====
module

public import proofs.«01_k».proof.Proof.Moves

@[expose] public section

/-! # The phases

Each loop of the body as one rule on what a device holds for all its peers at once, and the part the first two layers share. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (c : Dev nD) (K : Dev nD × Kind → ℕ)

/-! ## What a device holds for all peers at once -/

/-- One of each for every peer. -/
def fam (Φ : Fin 32 → sProp 𝕄) : sProp 𝕄 := bigSep Finset.univ Φ

/-- What follows device by device follows for all. -/
theorem fam_mono {Φ Ψ : Fin 32 → sProp 𝕄} (h : ∀ s, Φ s ⊢ Ψ s) : fam Φ ⊢ fam Ψ := bs_mono fun s _ => h s
/-- A family of pairs is a pair of families. -/
theorem fam_sep (Φ Ψ : Fin 32 → sProp 𝕄) : fam (fun s => iprop(Φ s ∗ Ψ s)) = iprop(fam Φ ∗ fam Ψ) := bs_sep (Φ := Φ) (Ψ := Ψ) Finset.univ
/-- Two families make a family of pairs. -/
theorem fam_join (Φ Ψ : Fin 32 → sProp 𝕄) : iprop(fam Φ ∗ fam Ψ) ⊢ fam (fun s => iprop(Φ s ∗ Ψ s)) := Entails.of_eq (fam_sep Φ Ψ).symm
/-- A family of nothing comes from nothing. -/
theorem fam_emp : (iprop(emp) : sProp 𝕄) ⊢ fam fun _ => iprop(emp) := by
  unfold fam
  rw [show (bigSep Finset.univ fun _ : Fin 32 => (iprop(emp) : sProp 𝕄)) = iprop(emp) from BI.bigSep_emp_const _]
/-- A persistent fact gives any family that follows from it. -/
theorem fam_persistent {P : sProp 𝕄} [BI.Persistent P] {Φ : Fin 32 → sProp 𝕄} (h : ∀ s, P ⊢ Φ s) : P ⊢ fam Φ :=
  BI.bigSep_intro_persistent fun s _ => h s

/-- Positions and rounds reached of the send cells, of the cells of the two exchanges. -/
def posS (r : ℕ) : sProp 𝕄 := fam fun s => atPos (ER (F := F)) (sendC c s) r ∅ 0
def posR (k : ℕ) : sProp 𝕄 := fam fun p => atPos (ER (F := F)) (rsC c p) k ∅ 0
def posA (k : ℕ) : sProp 𝕄 := fam fun p => atPos (ER (F := F)) (agC c p) k ∅ 0
def reachS (r : ℕ) : sProp 𝕄 := fam fun s => reached (ER (F := F)) (sendC c s) r
def reachR (k : ℕ) : sProp 𝕄 := fam fun p => reached (ER (F := F)) (rsC c p) k
def reachA (k : ℕ) : sProp 𝕄 := fam fun p => reached (ER (F := F)) (agC c p) k
/-- The duties of the sends: those of the device's own cells, those of the peers' cells. -/
def tokS (r : ℕ) : sProp 𝕄 := fam fun s => dutyTok (ER (F := F)) (sendC c s) r c
def tokR (k : ℕ) : sProp 𝕄 := fam fun s => dutyTok (ER (F := F)) (rsC s c) k c
def tokA (k : ℕ) : sProp 𝕄 := fam fun s => dutyTok (ER (F := F)) (agC s c) k c
/-- The credits of what is to arrive. -/
def credR (k : ℕ) : sProp 𝕄 := fam fun p => cred (tallyAt (rsC c p) k N)
def credA (k : ℕ) : sProp 𝕄 := fam fun p => cred (tallyAt (agC c p) k N)
/-- The slots of the peers the device may send to in layer `k`; likewise the row pairs. -/
def slots (k : ℕ) : sProp 𝕄 := fam fun s => iprop((∃ f, pbPts (F := F) s c f) ∗ reached (ER (F := F)) (rsC s c) k)
def rows (k : ℕ) : sProp 𝕄 := fam fun s => iprop((∃ f, xbPts (F := F) s c f) ∗ reached (ER (F := F)) (agC s c) k)

/-- The slots to write into, and the rounds reached there. -/
theorem slots_eq (k : ℕ) : slots (F := F) c k = iprop((fam fun s => iprop(∃ f, pbPts (F := F) s c f)) ∗ fam fun s => reached (ER (F := F)) (rsC s c) k) := fam_sep _ _
/-- The rows to write into, and the rounds reached there. -/
theorem rows_eq (k : ℕ) : rows (F := F) c k = iprop((fam fun s => iprop(∃ f, xbPts (F := F) s c f)) ∗ fam fun s => reached (ER (F := F)) (agC s c) k) := fam_sep _ _

/-! ## Cutting the buffers -/

/-- The partial results are their row pairs. -/
theorem ps_cut (f : S64x1024.Idx → Elt F .bf16) : whole c cc0_scratch0 f = fam fun s => psPts c s f := by
  unfold fam psPts
  exact Ring.pointsTo_blocks (ℓ := (c : Thread nD τ).loc cc0_scratch0) (B := Fin 32) rowSet row_disjoint row_cover f
/-- The received partial results are their slots. -/
theorem pb_cut (f : S32x2x1024.Idx → Elt F .bf16) : whole c cc0_scratch1 f = fam fun s => pbPts c s f := by
  unfold fam pbPts
  exact Ring.pointsTo_blocks (ℓ := (c : Thread nD τ).loc cc0_scratch1) (B := Fin 32) slotSet slot_disjoint slot_cover f
/-- The gathered activations are their row pairs. -/
theorem xb_cut (f : S64x1024.Idx → Elt F .bf16) : whole c cc0_scratch3 f = fam fun s => xbPts c s f := by
  unfold fam xbPts
  exact Ring.pointsTo_blocks (ℓ := (c : Thread nD τ).loc cc0_scratch3) (B := Fin 32) rowSet row_disjoint row_cover f

/-- The slots, with whatever they hold. -/
theorem pb_some (f : S32x2x1024.Idx → Elt F .bf16) : whole c cc0_scratch1 f ⊢ fam fun s => iprop(∃ f, pbPts (F := F) c s f) := by
  rw [pb_cut]; exact fam_mono fun s => by iintro H; iexists f; iexact H
/-- The row pairs of the gathered activations, with whatever they hold. -/
theorem xb_some (f : S64x1024.Idx → Elt F .bf16) : whole c cc0_scratch3 f ⊢ fam fun s => iprop(∃ f, xbPts (F := F) c s f) := by
  rw [xb_cut]; exact fam_mono fun s => by iintro H; iexists f; iexact H

/-- What is left of the reduced row pair beside its 32 shares. -/
def agRest (f : S2x1024.Idx → Elt F .bf16) : sProp 𝕄 := ((c : Thread nD τ).loc cc0_scratch2) ↦{Transfers.shareDrop fullShare 32} f
/-- The reduced row pair is cut into a share for each copy. -/
theorem ag_cut (f : S2x1024.Idx → Elt F .bf16) : whole c cc0_scratch2 f ⊢ iprop(agRest c f ∗ fam fun s => agPts c s f) :=
  Transfers.pointsTo_toks_split fullShare 32
/-- The shares of the reduced row pair are put together again. -/
theorem ag_paste (f : S2x1024.Idx → Elt F .bf16) : iprop(agRest c f ∗ fam fun s => agPts c s f) ⊢ whole c cc0_scratch2 f :=
  Transfers.pointsTo_toks_join fullShare 32

/-! ## The loops -/

/-- All 32 copies of an exchange of partial results. -/
theorem rs_sends {α : Type} (kk : ℕ) (hkk : kk < 3) (R : CellTallies nD τ sig ℕ) (Q : α → sProp 𝕄) (k : PUnit → Prog (Eff F) α) :
    iprop(ctx m ρ K ∗ (whole c cc0_scratch0 (PS m ρ kk c) ∗ slots (F := F) c kk ∗ (fam fun s => xbGrant (F := F) kk s c)
        ∗ tokS (F := F) c (2 * kk) ∗ reachS (F := F) c (2 * kk) ∗ tokR (F := F) c kk) ∗ owing c (R + rsDue kk c Finset.univ))
      ⊢ iprop((fam (sent (F := F) c) ∗ owing c R -∗ WP c (k ⟨⟩) Q) -∗ WP c ((loop (rsSend c) 32 le_rfl).bind k) Q) := by
  have h := wp_loop c 32 le_rfl (rsSend (F := F) c) (rsIn m ρ c kk) (sent (F := F) c) (fun n => owing c (R + rsDue kk c (last n))) (ctx m ρ K) Q
    (fun n h k => step_rsSend m ρ c K kk hkk R Q n h k) 32 le_rfl k
  rw [last_all, last_zero] at h
  have e0 : R + rsDue kk c ∅ = R := by unfold rsDue; rw [Finset.sum_empty, add_zero]
  rw [e0] at h
  have hA : bigSep Finset.univ (rsIn m ρ c kk) = iprop((fam fun s => psPts c s (PS m ρ kk c)) ∗ (fam fun s => iprop(∃ f, pbPts (F := F) s c f)) ∗ (fam fun s => xbGrant (F := F) kk s c)
      ∗ (fam fun s => dutyTok (ER (F := F)) (sendC c s) (2 * kk) c) ∗ (fam fun s => reached (ER (F := F)) (sendC c s) (2 * kk))
      ∗ (fam fun s => dutyTok (ER (F := F)) (rsC s c) kk c) ∗ fam fun s => reached (ER (F := F)) (rsC s c) kk) := by
    show fam _ = _
    unfold rsIn
    rw [fam_sep, fam_sep, fam_sep, fam_sep, fam_sep, fam_sep]
  rw [hA] at h
  refine BIBase.Entails.trans ?_ h
  rw [ps_cut, slots_eq]
  unfold tokS reachS tokR
  iintro ⟨#HP, ⟨Hps, ⟨Hsl, Hr'⟩, Hg, Ht, Hr, Ht'⟩, HO⟩
  isplitr; · iexact HP
  isplitr [HO]
  · isplitl [Hps]; · iexact Hps
    isplitl [Hsl]; · iexact Hsl
    isplitl [Hg]; · iexact Hg
    isplitl [Ht]; · iexact Ht
    isplitl [Hr]; · iexact Hr
    isplitl [Ht'] <;> iassumption
  iexact HO

/-- All 32 waits for partial results: afterwards the buffer holds what was gathered. -/
theorem rs_recvs {α : Type} (kk : ℕ) (hkk : kk < 3) (O : CellTallies nD τ sig ℕ) (hO : Above (2 + 2 * kk) O) (Q : α → sProp 𝕄) (k : PUnit → Prog (Eff F) α) :
    iprop(ctx m ρ K ∗ (credR (F := F) c kk ∗ posR (F := F) c kk) ∗ owing c O)
      ⊢ iprop(((posR (F := F) c (kk + 1) ∗ reachR (F := F) c (kk + 1) ∗ whole c cc0_scratch1 (gathered (PS m ρ kk) c)
          ∗ fam fun p => xbGrant (F := F) kk c p) ∗ owing c O -∗ WP c (k ⟨⟩) Q) -∗ WP c ((loop rsRecv 32 le_rfl).bind k) Q) := by
  have h := wp_loop c 32 le_rfl (rsRecv (F := F)) (fun p => iprop(cred (tallyAt (rsC c p) kk N) ∗ atPos (ER (F := F)) (rsC c p) kk ∅ 0))
    (fun p => iprop(atPos (ER (F := F)) (rsC c p) (kk + 1) ∅ 0 ∗ reached (ER (F := F)) (rsC c p) (kk + 1) ∗ rsPay m ρ kk c p))
    (fun n => owing c O) (ctx m ρ K) Q
    (fun n h k => rs_recv m ρ c K kk hkk O hO Q _ k) 32 le_rfl k
  rw [last_all] at h
  have h' : (bigSep Finset.univ fun p : Fin 32 => iprop(atPos (ER (F := F)) (rsC c p) (kk + 1) ∅ 0 ∗ reached (ER (F := F)) (rsC c p) (kk + 1) ∗ rsPay m ρ kk c p))
      = iprop(posR (F := F) c (kk + 1) ∗ reachR (F := F) c (kk + 1) ∗ whole c cc0_scratch1 (gathered (PS m ρ kk) c) ∗ fam fun p => xbGrant (F := F) kk c p) := by
    show fam _ = _
    unfold rsPay posR reachR
    rw [fam_sep, fam_sep, fam_sep, pb_cut]
  rw [h'] at h
  have hA : (bigSep Finset.univ fun p : Fin 32 => iprop(cred (tallyAt (rsC c p) kk N) ∗ atPos (ER (F := F)) (rsC c p) kk ∅ 0)) = iprop(fam (fun p => cred (tallyAt (rsC c p) kk N)) ∗ fam (fun p => atPos (ER (F := F)) (rsC c p) kk ∅ 0)) := fam_sep _ _
  rw [hA] at h
  refine BIBase.Entails.trans ?_ h
  iintro ⟨#HP, ⟨Hc, Hp⟩, HO⟩
  isplitr; · iexact HP
  isplitr [HO]
  · unfold credR posR
    isplitl [Hc] <;> iassumption
  iexact HO

/-- All 32 waits for a device's own copies to have left. -/
theorem send_dones {α : Type} (step : Fin 32 → Prog (Eff F) PUnit) (r : ℕ) (hr : r < 5) (O : CellTallies nD τ sig ℕ) (Q : α → sProp 𝕄)
    (hstep : ∀ s (k : PUnit → Prog (Eff F) α), iprop(ctx m ρ K ∗ (sent (F := F) c s ∗ atPos (ER (F := F)) (sendC c s) r ∅ 0) ∗ owing c O)
      ⊢ iprop(((atPos (ER (F := F)) (sendC c s) (r + 1) ∅ 0 ∗ reached (ER (F := F)) (sendC c s) (r + 1) ∗ sendPay m ρ r c s) ∗ owing c O
          -∗ WP c (k ⟨⟩) Q) -∗ WP c ((step s).bind k) Q)) (k : PUnit → Prog (Eff F) α) :
    iprop(ctx m ρ K ∗ (fam (sent (F := F) c) ∗ posS (F := F) c r) ∗ owing c O)
      ⊢ iprop(((posS (F := F) c (r + 1) ∗ reachS (F := F) c (r + 1) ∗ fam (sendPay m ρ r c)) ∗ owing c O -∗ WP c (k ⟨⟩) Q)
        -∗ WP c ((loop step 32 le_rfl).bind k) Q) := by
  have h := wp_loop c 32 le_rfl step (fun s => iprop(sent (F := F) c s ∗ atPos (ER (F := F)) (sendC c s) r ∅ 0))
    (fun s => iprop(atPos (ER (F := F)) (sendC c s) (r + 1) ∅ 0 ∗ reached (ER (F := F)) (sendC c s) (r + 1) ∗ sendPay m ρ r c s))
    (fun n => owing c O) (ctx m ρ K) Q (fun n h k => hstep _ k) 32 le_rfl k
  rw [last_all] at h
  have h' : (bigSep Finset.univ fun s : Fin 32 => iprop(atPos (ER (F := F)) (sendC c s) (r + 1) ∅ 0 ∗ reached (ER (F := F)) (sendC c s) (r + 1) ∗ sendPay m ρ r c s))
      = iprop(posS (F := F) c (r + 1) ∗ reachS (F := F) c (r + 1) ∗ fam (sendPay m ρ r c)) := by
    show fam _ = _
    unfold posS reachS
    rw [fam_sep, fam_sep]
  rw [h'] at h
  have hA : (bigSep Finset.univ fun s : Fin 32 => iprop(sent (F := F) c s ∗ atPos (ER (F := F)) (sendC c s) r ∅ 0)) = iprop(fam (sent (F := F) c) ∗ fam (fun s => atPos (ER (F := F)) (sendC c s) r ∅ 0)) := fam_sep _ _
  rw [hA] at h
  refine BIBase.Entails.trans ?_ h
  iintro ⟨#HP, ⟨Hc, Hp⟩, HO⟩
  isplitr; · iexact HP
  isplitr [HO]
  · unfold posS
    isplitl [Hc] <;> iassumption
  iexact HO

/-- After an exchange's waits for its own copies the partial results' buffer is the device's again. -/
theorem rs_dones {α : Type} (kk : ℕ) (hkk : kk < 3) (O : CellTallies nD τ sig ℕ) (hO : Above 0 O) (Q : α → sProp 𝕄) (k : PUnit → Prog (Eff F) α) :
    iprop(ctx m ρ K ∗ (fam (sent (F := F) c) ∗ posS (F := F) c (2 * kk)) ∗ owing c O)
      ⊢ iprop(((posS (F := F) c (2 * kk + 1) ∗ reachS (F := F) c (2 * kk + 1) ∗ whole c cc0_scratch0 (PS m ρ kk c)) ∗ owing c O -∗ WP c (k ⟨⟩) Q)
        -∗ WP c ((loop (rsDone c) 32 le_rfl).bind k) Q) := by
  have hp : fam (sendPay m ρ (2 * kk) c) = whole c cc0_scratch0 (PS m ρ kk c) := by
    rw [ps_cut]
    refine congrArg fam (funext fun s => ?_)
    unfold sendPay
    rw [if_pos (by omega), show 2 * kk / 2 = kk by omega]
  rw [← hp]
  exact send_dones m ρ c K (rsDone c) (2 * kk) (by omega) O Q (fun s k => rs_done m ρ c K (2 * kk) (by omega) O hO Q s k) k

/-- After a broadcast's waits for its own copies the reduced row pair's buffer is the device's again. -/
theorem ag_dones {α : Type} (kk : ℕ) (hkk : kk < 2) (O : CellTallies nD τ sig ℕ) (hO : Above 0 O) (Q : α → sProp 𝕄) (k : PUnit → Prog (Eff F) α) :
    iprop(ctx m ρ K ∗ (fam (sent (F := F) c) ∗ posS (F := F) c (2 * kk + 1)) ∗ owing c O)
      ⊢ iprop(((posS (F := F) c (2 * kk + 1 + 1) ∗ reachS (F := F) c (2 * kk + 1 + 1) ∗ fam fun s => agPts c s (RED m ρ kk c)) ∗ owing c O -∗ WP c (k ⟨⟩) Q)
        -∗ WP c ((loop (agDone c) 32 le_rfl).bind k) Q) := by
  have hp : fam (sendPay m ρ (2 * kk + 1) c) = fam fun s => agPts c s (RED m ρ kk c) := by
    refine congrArg fam (funext fun s => ?_)
    unfold sendPay
    rw [if_neg (by omega), show (2 * kk + 1) / 2 = kk by omega]
  rw [← hp]
  exact send_dones m ρ c K (agDone c) (2 * kk + 1) (by omega) O Q (fun s k => ag_done m ρ c K (2 * kk + 1) (by omega) O hO Q s k) k

/-- All 32 copies of a broadcast. -/
theorem ag_sends {α : Type} (kk : ℕ) (hkk : kk < 2) (R : CellTallies nD τ sig ℕ) (Q : α → sProp 𝕄) (k : PUnit → Prog (Eff F) α) :
    iprop(ctx m ρ K ∗ ((fam fun s => agPts c s (RED m ρ kk c)) ∗ rows (F := F) c kk ∗ (fam fun s => pbGrant (F := F) kk s c)
        ∗ tokS (F := F) c (2 * kk + 1) ∗ reachS (F := F) c (2 * kk + 1) ∗ tokA (F := F) c kk) ∗ owing c (R + agDue kk c Finset.univ))
      ⊢ iprop((fam (sent (F := F) c) ∗ owing c R -∗ WP c (k ⟨⟩) Q) -∗ WP c ((loop (agSend c) 32 le_rfl).bind k) Q) := by
  have h := wp_loop c 32 le_rfl (agSend (F := F) c) (agIn m ρ c kk) (sent (F := F) c) (fun n => owing c (R + agDue kk c (last n))) (ctx m ρ K) Q
    (fun n h k => step_agSend m ρ c K kk hkk R Q n h k) 32 le_rfl k
  rw [last_all, last_zero] at h
  have e0 : R + agDue kk c ∅ = R := by unfold agDue; rw [Finset.sum_empty, add_zero]
  rw [e0] at h
  have hA : bigSep Finset.univ (agIn m ρ c kk) = iprop((fam fun s => agPts c s (RED m ρ kk c)) ∗ (fam fun s => iprop(∃ f, xbPts (F := F) s c f)) ∗ (fam fun s => pbGrant (F := F) kk s c)
      ∗ (fam fun s => dutyTok (ER (F := F)) (sendC c s) (2 * kk + 1) c) ∗ (fam fun s => reached (ER (F := F)) (sendC c s) (2 * kk + 1))
      ∗ (fam fun s => dutyTok (ER (F := F)) (agC s c) kk c) ∗ fam fun s => reached (ER (F := F)) (agC s c) kk) := by
    show fam _ = _
    unfold agIn
    rw [fam_sep, fam_sep, fam_sep, fam_sep, fam_sep, fam_sep]
  rw [hA] at h
  refine BIBase.Entails.trans ?_ h
  rw [rows_eq]
  unfold tokS reachS tokA
  iintro ⟨#HP, ⟨Hps, ⟨Hsl, Hr'⟩, Hg, Ht, Hr, Ht'⟩, HO⟩
  isplitr; · iexact HP
  isplitr [HO]
  · isplitl [Hps]; · iexact Hps
    isplitl [Hsl]; · iexact Hsl
    isplitl [Hg]; · iexact Hg
    isplitl [Ht]; · iexact Ht
    isplitl [Hr]; · iexact Hr
    isplitl [Ht'] <;> iassumption
  iexact HO

/-- All 32 waits for reduced row pairs: afterwards the buffer holds the stacked activations. -/
theorem ag_recvs {α : Type} (kk : ℕ) (hkk : kk < 2) (O : CellTallies nD τ sig ℕ) (hO : Above (3 + 2 * kk) O) (Q : α → sProp 𝕄) (k : PUnit → Prog (Eff F) α) :
    iprop(ctx m ρ K ∗ (credA (F := F) c kk ∗ posA (F := F) c kk) ∗ owing c O)
      ⊢ iprop(((posA (F := F) c (kk + 1) ∗ reachA (F := F) c (kk + 1) ∗ whole c cc0_scratch3 (stacked (RED m ρ kk))
          ∗ slots (F := F) c (kk + 1)) ∗ owing c O -∗ WP c (k ⟨⟩) Q) -∗ WP c ((loop agRecv 32 le_rfl).bind k) Q) := by
  have h := wp_loop c 32 le_rfl (agRecv (F := F)) (fun p => iprop(cred (tallyAt (agC c p) kk N) ∗ atPos (ER (F := F)) (agC c p) kk ∅ 0))
    (fun p => iprop(atPos (ER (F := F)) (agC c p) (kk + 1) ∅ 0 ∗ reached (ER (F := F)) (agC c p) (kk + 1) ∗ agPay m ρ kk c p))
    (fun n => owing c O) (ctx m ρ K) Q
    (fun n h k => ag_recv m ρ c K kk hkk O hO Q _ k) 32 le_rfl k
  rw [last_all] at h
  have h' : (bigSep Finset.univ fun p : Fin 32 => iprop(atPos (ER (F := F)) (agC c p) (kk + 1) ∅ 0 ∗ reached (ER (F := F)) (agC c p) (kk + 1) ∗ agPay m ρ kk c p))
      = iprop(posA (F := F) c (kk + 1) ∗ reachA (F := F) c (kk + 1) ∗ whole c cc0_scratch3 (stacked (RED m ρ kk)) ∗ slots (F := F) c (kk + 1)) := by
    show fam _ = _
    unfold agPay posA reachA slots pbGrant
    rw [fam_sep, fam_sep, fam_sep, xb_cut]
  rw [h'] at h
  have hA : (bigSep Finset.univ fun p : Fin 32 => iprop(cred (tallyAt (agC c p) kk N) ∗ atPos (ER (F := F)) (agC c p) kk ∅ 0)) = iprop(fam (fun p => cred (tallyAt (agC c p) kk N)) ∗ fam (fun p => atPos (ER (F := F)) (agC c p) kk ∅ 0)) := fam_sep _ _
  rw [hA] at h
  refine BIBase.Entails.trans ?_ h
  iintro ⟨#HP, ⟨Hc, Hp⟩, HO⟩
  isplitr; · iexact HP
  isplitr [HO]
  · unfold credA posA
    isplitl [Hc] <;> iassumption
  iexact HO

/-- The slots of the own landing buffer, granted to the peers that filled them. -/
theorem grant_pb (k : ℕ) (f : S32x2x1024.Idx → Elt F .bf16) :
    iprop(whole c cc0_scratch1 f ∗ reachR (F := F) c (k + 1)) ⊢ fam fun s => pbGrant (F := F) k s c := by
  unfold pbGrant reachR
  rw [fam_sep]
  exact sep_mono_left (pb_some c f)
/-- The row pairs of the own activations, granted to the peers that filled them. -/
theorem grant_xb (f : S64x1024.Idx → Elt F .bf16) :
    iprop(whole c cc0_scratch3 f ∗ reachA (F := F) c 1) ⊢ fam fun s => xbGrant (F := F) 1 s c := by
  unfold reachA
  show _ ⊢ fam fun s => iprop((∃ f, xbPts (F := F) c s f) ∗ reached (ER (F := F)) (agC c s) 1)
  rw [fam_sep]
  exact sep_mono_left (xb_some c f)

/-! ## What the first two layers share -/

/-- From the sends of the partial results to the activations of the next layer. -/
theorem layer {α : Type} (kk : ℕ) (hkk : kk < 2) (O : CellTallies nD τ sig ℕ) (hO : Above (3 + 2 * kk) O) (Rw : sProp 𝕄)
    (hRw : iprop(Rw ∗ fam fun p => xbGrant (F := F) kk c p) ⊢ rows (F := F) c kk)
    (g : Vec F S32x2x1024 .bf16 → FVec F S2x1024 .bf16) (hg : g (gathered (PS m ρ kk) c) = RED m ρ kk c)
    (Q : α → sProp 𝕄) (k : Vec F S64x1024 .bf16 → Prog (Eff F) α) :
    iprop(ctx m ρ K ∗ (fam (sent (F := F) c) ∗ credR (F := F) c kk ∗ posR (F := F) c kk ∗ posS (F := F) c (2 * kk) ∗ (∃ f, whole (F := F) c cc0_scratch2 f) ∗ Rw
        ∗ tokS (F := F) c (2 * kk + 1) ∗ tokA (F := F) c kk ∗ credA (F := F) c kk ∗ posA (F := F) c kk) ∗ owing c (O + agDue kk c Finset.univ))
      ⊢ iprop(((posR (F := F) c (kk + 1) ∗ posS (F := F) c (2 * kk + 1 + 1) ∗ reachS (F := F) c (2 * kk + 1 + 1) ∗ posA (F := F) c (kk + 1) ∗ reachA (F := F) c (kk + 1)
          ∗ whole c cc0_scratch0 (PS m ρ kk c) ∗ (∃ f, whole (F := F) c cc0_scratch2 f) ∗ whole c cc0_scratch3 (stacked (RED m ρ kk)) ∗ slots (F := F) c (kk + 1)) ∗ owing c O
          -∗ WP c (k (stacked (RED m ρ kk))) Q)
        -∗ WP c ((loop rsRecv 32 le_rfl).bind fun _ => pbLoad.bind fun r => (loop (rsDone c) 32 le_rfl).bind fun _ => (agStore (g r)).bind fun _ =>
            (loop (agSend c) 32 le_rfl).bind fun _ => (loop agRecv 32 le_rfl).bind fun _ => xbLoad.bind fun x => (loop (agDone c) 32 le_rfl).bind fun _ => k x) Q) := by
  have hO' : Above (2 + 2 * kk) (O + agDue kk c Finset.univ) := (hO.mono (by omega)).add (above_ag kk (by omega) c _)
  iintro ⟨#HP, ⟨Hs, HcR, HpR, HpS, ⟨%f, Hag⟩, HRw, HtS, HtA, HcA, HpA⟩, HO⟩ Hk
  iapply (rs_recvs m ρ c K kk (by omega) _ hO' Q) $$ [HcR HpR HO]
  · isplitr; · iexact HP
    isplitr [HO]
    · isplitl [HcR] <;> iassumption
    iexact HO
  iintro ⟨⟨HpR, HrR, Hpb, Hg⟩, HO⟩
  iapply (pb_load c _ Q) $$ Hpb
  iintro Hpb
  iapply (rs_dones m ρ c K kk (by omega) _ (hO'.mono (Nat.zero_le _)) Q) $$ [Hs HpS HO]
  · isplitr; · iexact HP
    isplitr [HO]
    · isplitl [Hs] <;> iassumption
    iexact HO
  iintro ⟨⟨HpS, HrS, Hps⟩, HO⟩
  iapply (ag_store c f _ Q) $$ Hag
  rw [hg]
  iintro Hag
  ihave Hag := (ag_cut c _) $$ Hag
  icases Hag with ⟨Hrest, Hag⟩
  iapply (ag_sends m ρ c K kk hkk O Q) $$ [Hag HRw Hg Hpb HrR HtS HrS HtA HO]
  · isplitr; · iexact HP
    isplitr [HO]
    · isplitl [Hag]; · iexact Hag
      isplitl [HRw Hg]
      · iapply hRw; isplitl [HRw] <;> iassumption
      isplitl [Hpb HrR]
      · iapply (grant_pb c kk); isplitl [Hpb] <;> iassumption
      isplitl [HtS]; · iexact HtS
      isplitl [HrS] <;> iassumption
    iexact HO
  iintro ⟨Hs, HO⟩
  iapply (ag_recvs m ρ c K kk hkk O hO Q) $$ [HcA HpA HO]
  · isplitr; · iexact HP
    isplitr [HO]
    · isplitl [HcA] <;> iassumption
    iexact HO
  iintro ⟨⟨HpA, HrA, Hxb, Hsl⟩, HO⟩
  iapply (xb_load c _ Q) $$ Hxb
  iintro Hxb
  iapply (ag_dones m ρ c K kk hkk O (hO.mono (Nat.zero_le _)) Q) $$ [Hs HpS HO]
  · isplitr; · iexact HP
    isplitr [HO]
    · isplitl [Hs] <;> iassumption
    iexact HO
  iintro ⟨⟨HpS, HrS, Hag⟩, HO⟩
  iapply Hk
  isplitr [HO]
  · isplitl [HpR]; · iexact HpR
    isplitl [HpS]; · iexact HpS
    isplitl [HrS]; · iexact HrS
    isplitl [HpA]; · iexact HpA
    isplitl [HrA]; · iexact HrA
    isplitl [Hps]; · iexact Hps
    isplitl [Hrest Hag]
    · iexists _
      iapply (ag_paste c (RED m ρ kk c))
      isplitl [Hrest]; · iexact Hrest
      iexact Hag
    isplitl [Hxb] <;> iassumption
  iexact HO

end Cert.KernelIdeal.Ring

end
-- ==== Proof.Body.lean ====
module

public import proofs.«01_k».proof.Proof.Phases

@[expose] public section

/-! # The body

What a device starts with, what it ends with, and the body from one to the other. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (c : Dev nD) (K : Dev nD × Kind → ℕ)

/-! ## The signals and the barrier -/

/-- The duties of the signals. -/
def tokB : sProp 𝕄 := bigSep (Finset.univ.erase 0) fun i : Fin 32 => dutyTok (ER (F := F)) (barC (fwd c i)) 0 c

/-- No steps on from a device is the device itself. -/
theorem fwd_zero : ∀ c : Fin 32, fwd c 0 = c := by decide +kernel
/-- Counting the devices from `c`. -/
def fwdE : Fin 32 ≃ Fin 32 where
  toFun i := fwd c i
  invFun d := (show Fin 32 from d) - (show Fin 32 from c)
  left_inv := (show ∀ c i : Fin 32, fwd c i - c = i by decide +kernel) c
  right_inv := (show ∀ c i : Fin 32, fwd c (i - c) = i by decide +kernel) c

/-- A family over the peers, counted from the device itself: its own, and the others'. -/
theorem fam_fwd (Φ : Fin 32 → sProp 𝕄) : fam Φ = iprop(Φ c ∗ bigSep (Finset.univ.erase 0) fun i : Fin 32 => Φ (fwd c i)) := by
  have h : bigSep Finset.univ Φ = bigSep Finset.univ fun i : Fin 32 => Φ (fwd c i) := BI.bigSep_univ_equiv (fwdE c) Φ
  have h0 : fwd c 0 = c := fwd_zero c
  have h' := bigSep_univ_at (fun i : Fin 32 => Φ (fwd c i)) 0
  rw [h0] at h'
  exact h.trans h'

/-- All the barrier's signals: each pays its peer's duty and grants the peer what the barrier hands over. -/
theorem signals {α : Type} (R : CellTallies nD τ sig ℕ) (Q : α → sProp 𝕄) (k : PUnit → Prog (Eff F) α) :
    iprop(ctx m ρ K ∗ (tokB (F := F) c ∗ (∃ f, whole (F := F) c cc0_scratch1 f) ∗ ∃ f, whole (F := F) c cc0_scratch3 f) ∗ owing c (R + barDue c (Finset.univ.erase 0)))
      ⊢ iprop((((∃ f, pbPts (F := F) c c f) ∗ ∃ f, xbPts (F := F) c c f) ∗ owing c R -∗ WP c (k ⟨⟩) Q) -∗ WP c ((loop (sigStep c) 31 (by decide)).bind k) Q) := by
  have h := wp_loop c 31 (by decide) (sigStep (F := F) c) (fun i => sigIn (F := F) c (fwd c i)) (fun _ => iprop(emp)) (fun n => owing c (R + barDue c (last n))) (ctx m ρ K) Q
    (fun n h k => step_sig m ρ c K R Q n h k) 31 le_rfl k
  have e0 : R + barDue c ∅ = R := by unfold barDue; rw [Finset.sum_empty, add_zero]
  have hA : (bigSep (Finset.univ.erase 0) fun i : Fin 32 => sigIn (F := F) c (fwd c i))
      = iprop(tokB (F := F) c ∗ (bigSep (Finset.univ.erase 0) fun i : Fin 32 => iprop(∃ f, pbPts (F := F) c (fwd c i) f))
        ∗ bigSep (Finset.univ.erase 0) fun i : Fin 32 => iprop(∃ f, xbPts (F := F) c (fwd c i) f)) := by
    unfold sigIn tokB
    rw [bs_sep, bs_sep]
  have hB : (bigSep (Finset.univ.erase 0) fun _ : Fin 32 => (iprop(emp) : sProp 𝕄)) = iprop(emp) := BI.bigSep_emp_const _
  rw [last_butone, last_zero, e0, hA, hB] at h
  have hpb : iprop(∃ f, whole (F := F) c cc0_scratch1 f) ⊢ iprop((∃ f, pbPts (F := F) c c f) ∗ bigSep (Finset.univ.erase 0) fun i : Fin 32 => iprop(∃ f, pbPts (F := F) c (fwd c i) f)) := by
    rw [← fam_fwd c fun s => iprop(∃ f, pbPts (F := F) c s f)]
    iintro ⟨%f, H⟩
    iapply (pb_some c f); iexact H
  have hxb : iprop(∃ f, whole (F := F) c cc0_scratch3 f) ⊢ iprop((∃ f, xbPts (F := F) c c f) ∗ bigSep (Finset.univ.erase 0) fun i : Fin 32 => iprop(∃ f, xbPts (F := F) c (fwd c i) f)) := by
    rw [← fam_fwd c fun s => iprop(∃ f, xbPts (F := F) c s f)]
    iintro ⟨%f, H⟩
    iapply (xb_some c f); iexact H
  iintro ⟨#HP, ⟨Ht, Hpb, Hxb⟩, HO⟩ Hk
  ihave Hpb := hpb $$ Hpb
  ihave Hxb := hxb $$ Hxb
  icases Hpb with ⟨Hpb, Hpbs⟩
  icases Hxb with ⟨Hxb, Hxbs⟩
  iapply h $$ [Ht Hpbs Hxbs HO]
  · isplitr; · iexact HP
    isplitr [HO]
    · isplitl [Ht]; · iexact Ht
      isplitl [Hpbs] <;> iassumption
    iexact HO
  iintro ⟨-, HO⟩
  iapply Hk
  isplitr [HO]
  · isplitl [Hpb] <;> iassumption
  iexact HO

/-- At the start the slots granted by the peers, with the first round reached, are what the first exchange sends into. -/
theorem ctx_slots0 : iprop(ctx m ρ K ∗ fam fun s => iprop(∃ f, pbPts (F := F) s c f)) ⊢ slots (F := F) c 0 := by
  rw [slots_eq]
  iintro ⟨#HP, H⟩
  isplitl; · iexact H
  iapply (fam_persistent fun s => ctx_reached m ρ K s (.inr (oRs c))); iexact HP
/-- At the start the rows granted by the peers, with the first round reached, are what the first broadcast sends into. -/
theorem ctx_rows0 : iprop(ctx m ρ K ∗ fam fun s => iprop(∃ f, xbPts (F := F) s c f)) ⊢ rows (F := F) c 0 := by
  rw [rows_eq]
  iintro ⟨#HP, H⟩
  isplitl; · iexact H
  iapply (fam_persistent fun s => ctx_reached m ρ K s (.inr (oAg c))); iexact HP

/-- The barrier as a whole: after it a device may write into its slot and its rows on every device. -/
theorem barrier {α : Type} (O : CellTallies nD τ sig ℕ) (hO : Above 1 O) (Q : α → sProp 𝕄) (k : PUnit → Prog (Eff F) α) :
    iprop(ctx m ρ K ∗ (cred (tallyAt (barC c) 0 31) ∗ atPos (ER (F := F)) (barC c) 0 ∅ 0 ∗ (∃ f, pbPts (F := F) c c f) ∗ ∃ f, xbPts (F := F) c c f) ∗ owing c O)
      ⊢ iprop(((atPos (ER (F := F)) (barC c) 1 ∅ 0 ∗ slots (F := F) c 0 ∗ rows (F := F) c 0) ∗ owing c O -∗ WP c (k ⟨⟩) Q)
        -∗ WP c ((semWaitWord barS 31#32 : Prog (Eff F) PUnit).bind k) Q) := by
  have h := wp_wait_kind m ρ c K kBar (.semWait barS (31#32).toInt) 31 0 0 1 O (wpE_semWait_eq 𝒱₀ (c : Thread nD τ) none Set.univ)
    (expect_bar m ρ c) (by decide) (le_of_eq (lv_bar c 0)) hO k Q
  have hB : bigSep ((sched (F := F) m ρ).duties (kcell (c, kBar)) 0 \ ∅) (fun d => (sched (F := F) m ρ).payload (kcell (c, kBar)) 0 d)
      = iprop((bigSep (Finset.univ.erase c) fun d : Fin 32 => iprop(∃ f, pbPts (F := F) d c f)) ∗ bigSep (Finset.univ.erase c) fun d : Fin 32 => iprop(∃ f, xbPts (F := F) d c f)) :=
    (rest_bar m ρ c).trans (bs_sep _)
  rw [hB] at h
  have hpb : iprop((∃ f, pbPts (F := F) c c f) ∗ bigSep (Finset.univ.erase c) fun d : Fin 32 => iprop(∃ f, pbPts (F := F) d c f)) ⊢ fam fun d => iprop(∃ f, pbPts (F := F) d c f) :=
    Entails.of_eq (bigSep_univ_at (fun d : Fin 32 => iprop(∃ f, pbPts (F := F) d c f)) c).symm
  have hxb : iprop((∃ f, xbPts (F := F) c c f) ∗ bigSep (Finset.univ.erase c) fun d : Fin 32 => iprop(∃ f, xbPts (F := F) d c f)) ⊢ fam fun d => iprop(∃ f, xbPts (F := F) d c f) :=
    Entails.of_eq (bigSep_univ_at (fun d : Fin 32 => iprop(∃ f, xbPts (F := F) d c f)) c).symm
  iintro ⟨#HP, ⟨Hc, Hat, Hpb, Hxb⟩, HO⟩ Hk
  iapply h $$ [Hc Hat HO]
  · isplitr; · iexact HP
    isplitr [HO]
    · isplitl [Hc]; · iexact Hc
      iexact Hat
    iexact HO
  iintro ⟨⟨Hat, -, Hpbs, Hxbs⟩, HO⟩
  iapply Hk
  isplitr [HO]
  · isplitl [Hat]; · iexact Hat
    isplitl [Hpb Hpbs]
    · iapply (ctx_slots0 m ρ c K)
      isplitr; · iexact HP
      iapply hpb
      isplitl [Hpb] <;> iassumption
    iapply (ctx_rows0 m ρ c K)
    isplitr; · iexact HP
    iapply hxb
    isplitl [Hxb] <;> iassumption
  iexact HO

/-! ## The start and the end -/

/-- The positions at the start. -/
def pos₀ : sProp 𝕄 :=
  iprop(atPos (ER (F := F)) (barC c) 0 ∅ 0 ∗ posS (F := F) c 0 ∗ posR (F := F) c 0 ∗ posA (F := F) c 0
    ∗ atPos (ER (F := F)) (wC c 0) 0 ∅ 0 ∗ atPos (ER (F := F)) (wC c 1) 0 ∅ 0 ∗ atPos (ER (F := F)) (wC c 2) 0 ∅ 0 ∗ atPos (ER (F := F)) (wC c 3) 0 ∅ 0)
/-- The duties a device pays. -/
def duties : sProp 𝕄 :=
  iprop(tokB (F := F) c ∗ (tokS (F := F) c 0 ∗ tokS (F := F) c 1 ∗ tokS (F := F) c 2 ∗ tokS (F := F) c 3 ∗ tokS (F := F) c 4)
    ∗ (tokR (F := F) c 0 ∗ tokR (F := F) c 1 ∗ tokR (F := F) c 2) ∗ (tokA (F := F) c 0 ∗ tokA (F := F) c 1)
    ∗ dutyTok (ER (F := F)) (wC c 0) 0 c ∗ dutyTok (ER (F := F)) (wC c 0) 1 c ∗ dutyTok (ER (F := F)) (wC c 1) 0 c ∗ dutyTok (ER (F := F)) (wC c 1) 1 c
    ∗ dutyTok (ER (F := F)) (wC c 2) 0 c ∗ dutyTok (ER (F := F)) (wC c 3) 0 c)
/-- The credits a device waits with. -/
def credits : sProp 𝕄 :=
  iprop(cred (tallyAt (barC c) 0 31) ∗ (credR (F := F) c 0 ∗ credR (F := F) c 1 ∗ credR (F := F) c 2) ∗ credA (F := F) c 0 ∗ credA (F := F) c 1)
/-- Half a share of an argument. -/
def half (b : Ref sig .tc) : sProp 𝕄 :=
  ((Memref.whole b).view.loc (c : Thread nD τ)) ↦[(Memref.whole b).view.set]{fullShare.right} (m ((c : Thread nD τ).loc b))
def halves : sProp 𝕄 := iprop(half m c main_arg1 ∗ half m c main_arg2 ∗ half m c main_arg3 ∗ half m c main_arg4 ∗ half m c main_arg5 ∗ half m c main_arg6)
/-- Half of an array that holds what it held at the start. -/
theorem half_intro (b : Ref sig .tc) : (((c : Thread nD τ).loc b) ↦{fullShare.right} m ((c : Thread nD τ).loc b) : sProp 𝕄) ⊢ half m c b := by
  unfold half; rw [View.set_whole]
/-- The scratch buffers at some contents. -/
def scratch : sProp 𝕄 :=
  iprop((∃ f, whole (F := F) c cc0_scratch0 f) ∗ (∃ f, whole (F := F) c cc0_scratch1 f) ∗ (∃ f, whole (F := F) c cc0_scratch2 f)
    ∗ (∃ f, whole (F := F) c cc0_scratch3 f) ∗ (∃ f, whole (F := F) c cc0_scratch4 f) ∗ ∃ f, whole (F := F) c cc0_scratch5 f)
/-- The positions at the end, each past its last round. -/
def pos₁ : sProp 𝕄 :=
  iprop(atPos (ER (F := F)) (barC c) 1 ∅ 0 ∗ posS (F := F) c 5 ∗ posR (F := F) c 3 ∗ posA (F := F) c 2
    ∗ atPos (ER (F := F)) (wC c 0) 2 ∅ 0 ∗ atPos (ER (F := F)) (wC c 1) 2 ∅ 0 ∗ atPos (ER (F := F)) (wC c 2) 1 ∅ 0 ∗ atPos (ER (F := F)) (wC c 3) 1 ∅ 0)
/-- All the protocol's counters at zero. -/
def zeros : sProp 𝕄 :=
  iprop(semVal (barC c) 0 ∗ (fam fun s => semVal (sendC c s) 0) ∗ (fam fun p => semVal (rsC c p) 0) ∗ (fam fun p => semVal (agC c p) 0)
    ∗ semVal (wC c 0) 0 ∗ semVal (wC c 1) 0 ∗ semVal (wC c 2) 0 ∗ semVal (wC c 3) 0)

/-! ## Closing the cells -/

/-- A semaphore whose rounds are all over ends at zero. -/
theorem close_one (k : Kind) (r : ℕ) (hr : roundsOf k ≤ r) :
    iprop(ctx m ρ K ∗ atPos (ER (F := F)) (kcell (c, k)) r ∅ 0) ⊢ |={Set.univ}=> semVal (kcell (c, k)) 0 := by
  iintro ⟨#HP, Hat⟩
  ihave #HI := (ctx_inv m ρ K c k) $$ HP
  iapply (Rounds.cell_close (ER (F := F)) (sched m ρ) (Set.mem_univ (K (c, k))) (fun h => h) (R := r) (fun r' h => duties_later m ρ c k r' (hr.trans h)))
  isplitr; · iexact HI
  iexact Hat
/-- So do 32 semaphores whose rounds are all over. -/
theorem close_fam (k : Fin 32 → Kind) (r : ℕ) (hr : ∀ s, roundsOf (k s) ≤ r) :
    iprop(ctx m ρ K ∗ fam fun s => atPos (ER (F := F)) (kcell (c, k s)) r ∅ 0) ⊢ |={Set.univ}=> fam fun s => semVal (kcell (c, k s)) 0 :=
  (bigSep_with_persistent (R := ctx m ρ K) (Φ := fun s : Fin 32 => atPos (ER (F := F)) (kcell (c, k s)) r ∅ 0)
    fun s _ => close_one m ρ c K (k s) r (hr s)).trans (bigSep_fupd _ _)

/-- After the last waits every semaphore of the device is at zero. -/
theorem close_all : iprop(ctx m ρ K ∗ pos₁ (F := F) c) ⊢ |={Set.univ}=> zeros (F := F) c := by
  unfold pos₁ zeros posS posR posA
  iintro ⟨#HP, HB, HS, HR, HA, H0, H1, H2, H3⟩
  imod (close_one m ρ c K kBar 1 le_rfl) $$ [HB] with HB
  · isplitr; · iexact HP
    iexact HB
  imod (close_fam m ρ c K (fun s => .inr (oSend s)) 5 fun _ => le_rfl) $$ [HS] with HS
  · isplitr; · iexact HP
    iexact HS
  imod (close_fam m ρ c K (fun s => .inr (oRs s)) 3 fun _ => le_rfl) $$ [HR] with HR
  · isplitr; · iexact HP
    iexact HR
  imod (close_fam m ρ c K (fun s => .inr (oAg s)) 2 fun _ => le_rfl) $$ [HA] with HA
  · isplitr; · iexact HP
    iexact HA
  imod (close_one m ρ c K (.inr (oW 0)) 2 (by decide)) $$ [H0] with H0
  · isplitr; · iexact HP
    iexact H0
  imod (close_one m ρ c K (.inr (oW 1)) 2 (by decide)) $$ [H1] with H1
  · isplitr; · iexact HP
    iexact H1
  imod (close_one m ρ c K (.inr (oW 2)) 1 (by decide)) $$ [H2] with H2
  · isplitr; · iexact HP
    iexact H2
  imod (close_one m ρ c K (.inr (oW 3)) 1 (by decide)) $$ [H3] with H3
  · isplitr; · iexact HP
    iexact H3
  imodintro
  isplitl [HB]; · iexact HB
  isplitl [HS]; · iexact HS
  isplitl [HR]; · iexact HR
  isplitl [HA]; · iexact HA
  isplitl [H0]; · iexact H0
  isplitl [H1]; · iexact H1
  isplitl [H2]; · iexact H2
  iexact H3

/-! ## The weights' slots -/

/-- The double buffer of first weights is its two slots. -/
theorem wi_cut : iprop(∃ f, whole (F := F) c cc0_scratch4 f) ⊢ iprop((∃ f, wiPts (F := F) c 0 f) ∗ ∃ f, wiPts (F := F) c 1 f) := by
  iintro ⟨%f, H⟩
  have h : whole c cc0_scratch4 f = iprop(wiPts c 0 f ∗ wiPts c 1 f) :=
    (Ring.pointsTo_blocks (ℓ := (c : Thread nD τ).loc cc0_scratch4) (B := Fin 2) wiSet wi_disjoint wi_cover f).trans (bigSep_univ_two _)
  ihave H := (Entails.of_eq h) $$ H
  icases H with ⟨H0, H1⟩
  isplitl [H0]; · iexists f; iexact H0
  iexists f; iexact H1
/-- The double buffer of second weights is its two slots. -/
theorem wo_cut : iprop(∃ f, whole (F := F) c cc0_scratch5 f) ⊢ iprop((∃ f, woPts (F := F) c 0 f) ∗ ∃ f, woPts (F := F) c 1 f) := by
  iintro ⟨%f, H⟩
  have h : whole c cc0_scratch5 f = iprop(woPts c 0 f ∗ woPts c 1 f) :=
    (Ring.pointsTo_blocks (ℓ := (c : Thread nD τ).loc cc0_scratch5) (B := Fin 2) woSet wo_disjoint wo_cover f).trans (bigSep_univ_two _)
  ihave H := (Entails.of_eq h) $$ H
  icases H with ⟨H0, H1⟩
  isplitl [H0]; · iexists f; iexact H0
  iexists f; iexact H1
/-- The two slots of first weights are the double buffer again. -/
theorem wi_paste (f : S2x1024x2048.Idx → Elt F .f32) : iprop((∃ f, wiPts (F := F) c 0 f) ∗ ∃ f, wiPts (F := F) c 1 f) ⊢ iprop(∃ f, whole (F := F) c cc0_scratch4 f) :=
  (Entails.of_eq (bigSep_univ_two fun s : Fin 2 => iprop(∃ f, wiPts (F := F) c s f)).symm).trans
    (Ring.pointsTo_blocks_join_exists (ℓ := (c : Thread nD τ).loc cc0_scratch4) (B := Fin 2) wiSet wi_disjoint wi_cover f)
/-- The two slots of second weights are the double buffer again. -/
theorem wo_paste (f : S2x2048x1024.Idx → Elt F .f32) : iprop((∃ f, woPts (F := F) c 0 f) ∗ ∃ f, woPts (F := F) c 1 f) ⊢ iprop(∃ f, whole (F := F) c cc0_scratch5 f) :=
  (Entails.of_eq (bigSep_univ_two fun s : Fin 2 => iprop(∃ f, woPts (F := F) c s f)).symm).trans
    (Ring.pointsTo_blocks_join_exists (ℓ := (c : Thread nD τ).loc cc0_scratch5) (B := Fin 2) woSet wo_disjoint wo_cover f)

/-! ## The body -/

/-- At the start a weight semaphore is ready for its first copy. -/
theorem w_step (q : Fin 4) : iprop(ctx m ρ K ∗ dutyTok (ER (F := F)) (wC c q) 0 c) ⊢ wIn (F := F) c q 0 := by
  unfold wIn
  iintro ⟨#HP, Ht⟩
  isplitl; · iexact Ht
  iapply (ctx_reached m ρ K c (.inr (oW q))); iexact HP

/-- What the opening hands on: positions, the right to send, the first layer's weights used and the later layers' on their way. -/
def opened : sProp 𝕄 :=
  iprop((atPos (ER (F := F)) (barC c) 1 ∅ 0 ∗ slots (F := F) c 0 ∗ rows (F := F) c 0)
    ∗ (atPos (ER (F := F)) (wC c 0) 1 ∅ 0 ∗ atPos (ER (F := F)) (wC c 1) 1 ∅ 0)
    ∗ cred (tallyAt (wC c 2) 0 (wAmt 2)) ∗ cred (tallyAt (wC c 3) 0 (wAmt 3)) ∗ cred (tallyAt (wC c 0) 0 (wAmt 0)) ∗ cred (tallyAt (wC c 1) 0 (wAmt 1)))

/-- The opening: the first weights fetched, the peers signalled, the later weights fetched, the barrier waited for. -/
theorem opening {α : Type} (Q : α → sProp 𝕄) (k : Vec F S64x1024 .f32 → Vec F S1x1024x2048 .f32 → Vec F S1x2048x1024 .f32 → Prog (Eff F) α) :
    iprop(ctx m ρ K ∗ (halves m c ∗ (∃ f, whole (F := F) c cc0_scratch4 f) ∗ (∃ f, whole (F := F) c cc0_scratch5 f) ∗ (∃ f, whole (F := F) c cc0_scratch1 f) ∗ (∃ f, whole (F := F) c cc0_scratch3 f)
        ∗ (dutyTok (ER (F := F)) (wC c 0) 0 c ∗ dutyTok (ER (F := F)) (wC c 0) 1 c ∗ dutyTok (ER (F := F)) (wC c 1) 0 c ∗ dutyTok (ER (F := F)) (wC c 1) 1 c
          ∗ dutyTok (ER (F := F)) (wC c 2) 0 c ∗ dutyTok (ER (F := F)) (wC c 3) 0 c)
        ∗ (atPos (ER (F := F)) (wC c 0) 0 ∅ 0 ∗ atPos (ER (F := F)) (wC c 1) 0 ∅ 0 ∗ atPos (ER (F := F)) (barC c) 0 ∅ 0)
        ∗ tokB (F := F) c ∗ cred (tallyAt (barC c) 0 31) ∗ whole c cc0_stg0_0 (xstg m ρ c)) ∗ owing c (O₀ c))
      ⊢ iprop((opened (F := F) c ∗ whole c cc0_stg0_0 (xstg m ρ c) ∗ owing c (O1 c) -∗ WP c (k (xstg m ρ c) (ldI (w1 m c) 0) (ldO (w2 m c) 0)) Q)
        -∗ WP c ((wiCopy (Memref.whole main_arg1) (Memref.isWhole_whole _) 0 0).bind fun _ =>
          (woCopy (Memref.whole main_arg2) (Memref.isWhole_whole _) 0 1).bind fun _ =>
          (loop (sigStep c) 31 (by decide)).bind fun _ =>
          (Prog.lift (.load (Memref.whole cc0_stg0_0) (Rect.unit (s := S64x1024) ![0, 0] S64x1024.size inb_S64x1024_S64x1024_0_0).toLoadRect (View.loadsAt_vmem h_S64x1024)) : Prog (Eff F) (Vec F S64x1024 .f32)).bind fun x =>
          (wiWait (Memref.whole main_arg1) (Memref.isWhole_whole _) 0 0).bind fun _ =>
          (wiLoad 0).bind fun wi0 =>
          (woWait (Memref.whole main_arg2) (Memref.isWhole_whole _) 0 1).bind fun _ =>
          (woLoad 0).bind fun wo0 =>
          (wiCopy (Memref.whole main_arg3) (Memref.isWhole_whole _) 1 2).bind fun _ =>
          (woCopy (Memref.whole main_arg4) (Memref.isWhole_whole _) 1 3).bind fun _ =>
          (wiCopy (Memref.whole main_arg5) (Memref.isWhole_whole _) 0 0).bind fun _ =>
          (woCopy (Memref.whole main_arg6) (Memref.isWhole_whole _) 0 1).bind fun _ =>
          (semWaitWord barS 31#32 : Prog (Eff F) PUnit).bind fun _ => k x wi0 wo0) Q) := by
  unfold halves half
  iintro ⟨#HP, ⟨⟨A1, A2, A3, A4, A5, A6⟩, Hwi, Hwo, Hpb, Hxb, ⟨T00, T01, T10, T11, T2, T3⟩, ⟨P0, P1, PB⟩, HtB, HcB, Hx⟩, HO⟩ Hk
  ihave Hwi := (wi_cut (F := F) c) $$ Hwi
  icases Hwi with ⟨Hwi0, Hwi1⟩
  ihave Hwo := (wo_cut (F := F) c) $$ Hwo
  icases Hwo with ⟨Hwo0, Hwo1⟩
  iapply (wi_copy m ρ c K (Memref.whole main_arg1) (Memref.isWhole_whole _) fullShare.right (m ((c : Thread nD τ).loc main_arg1)) (w1 m c) 0 0 0 (by decide) rfl rfl rfl Q) $$ [A1 Hwi0 T00]
  · isplitr; · iexact HP
    isplitl [A1]; · iexact A1
    isplitl [Hwi0]; · iexact Hwi0
    iapply (w_step m ρ c K 0)
    isplitr; · iexact HP
    iexact T00
  iintro C0
  iapply (wo_copy m ρ c K (Memref.whole main_arg2) (Memref.isWhole_whole _) fullShare.right (m ((c : Thread nD τ).loc main_arg2)) (w2 m c) 0 1 0 (by decide) rfl rfl rfl Q) $$ [A2 Hwo0 T10]
  · isplitr; · iexact HP
    isplitl [A2]; · iexact A2
    isplitl [Hwo0]; · iexact Hwo0
    iapply (w_step m ρ c K 1)
    isplitr; · iexact HP
    iexact T10
  iintro C1
  iapply (signals m ρ c K (O1 c) Q) $$ [HtB Hpb Hxb HO]
  · isplitr; · iexact HP
    isplitr [HO]
    · isplitl [HtB]; · iexact HtB
      isplitl [Hpb] <;> iassumption
    iexact HO
  iintro ⟨⟨Hpb, Hxb⟩, HO⟩
  rw [lift_bind]
  iapply (wp_load 𝒱₀ (c : Thread nD τ) none Set.univ (m := Memref.whole cc0_stg0_0) (S := Finset.univ) (q := fullShare) (f := xstg m ρ c) (Finset.subset_univ _)) $$ [Hx]
  · iexact Hx
  iintro Hx
  rw [show (Memref.whole cc0_stg0_0).view.readAt (Elt F) (Rect.unit (s := S64x1024) ![0, 0] S64x1024.size inb_S64x1024_S64x1024_0_0).toLoadRect (xstg m ρ c) = xstg m ρ c from
    Memref.readAt_unit_zero (Elt F) cc0_stg0_0 hz2 _ (xstg m ρ c)]
  iapply (wi_wait m ρ c K (Memref.whole main_arg1) (Memref.isWhole_whole _) 0 0 0 (by decide) rfl (O1 c) ((above_O1 c).mono (Nat.zero_le _)) Q) $$ [C0 P0 HO]
  · isplitr; · iexact HP
    isplitr [HO]
    · isplitl [C0] <;> iassumption
    iexact HO
  iintro ⟨⟨P0, R0, Hwi0⟩, HO⟩
  ihave Hwi0 := (Entails.of_eq (show wPay m 0 c 0 = wiPts c 0 (twiceI (w1 m c)) from rfl)) $$ Hwi0
  iapply (wi_load c 0 (w1 m c) Q) $$ [Hwi0]
  · iexact Hwi0
  iintro Hwi0
  iapply (wo_wait m ρ c K (Memref.whole main_arg2) (Memref.isWhole_whole _) 0 1 0 (by decide) rfl (O1 c) ((above_O1 c).mono (Nat.zero_le _)) Q) $$ [C1 P1 HO]
  · isplitr; · iexact HP
    isplitr [HO]
    · isplitl [C1] <;> iassumption
    iexact HO
  iintro ⟨⟨P1, R1, Hwo0⟩, HO⟩
  ihave Hwo0 := (Entails.of_eq (show wPay m 0 c 1 = woPts c 0 (twiceO (w2 m c)) from rfl)) $$ Hwo0
  iapply (wo_load c 0 (w2 m c) Q) $$ [Hwo0]
  · iexact Hwo0
  iintro Hwo0
  iapply (wi_copy m ρ c K (Memref.whole main_arg3) (Memref.isWhole_whole _) fullShare.right (m ((c : Thread nD τ).loc main_arg3)) (w3 m c) 1 2 0 (by decide) rfl rfl rfl Q) $$ [A3 Hwi1 T2]
  · isplitr; · iexact HP
    isplitl [A3]; · iexact A3
    isplitl [Hwi1]; · iexact Hwi1
    iapply (w_step m ρ c K 2)
    isplitr; · iexact HP
    iexact T2
  iintro C2
  iapply (wo_copy m ρ c K (Memref.whole main_arg4) (Memref.isWhole_whole _) fullShare.right (m ((c : Thread nD τ).loc main_arg4)) (w4 m c) 1 3 0 (by decide) rfl rfl rfl Q) $$ [A4 Hwo1 T3]
  · isplitr; · iexact HP
    isplitl [A4]; · iexact A4
    isplitl [Hwo1]; · iexact Hwo1
    iapply (w_step m ρ c K 3)
    isplitr; · iexact HP
    iexact T3
  iintro C3
  iapply (wi_copy m ρ c K (Memref.whole main_arg5) (Memref.isWhole_whole _) fullShare.right (m ((c : Thread nD τ).loc main_arg5)) (w5 m c) 0 0 1 (by decide) rfl rfl rfl Q) $$ [A5 Hwi0 T01 R0]
  · isplitr; · iexact HP
    isplitl [A5]; · iexact A5
    isplitl [Hwi0]; · iexists _; iexact Hwi0
    unfold wIn
    isplitl [T01] <;> iassumption
  iintro C0
  iapply (wo_copy m ρ c K (Memref.whole main_arg6) (Memref.isWhole_whole _) fullShare.right (m ((c : Thread nD τ).loc main_arg6)) (w6 m c) 0 1 1 (by decide) rfl rfl rfl Q) $$ [A6 Hwo0 T11 R1]
  · isplitr; · iexact HP
    isplitl [A6]; · iexact A6
    isplitl [Hwo0]; · iexists _; iexact Hwo0
    unfold wIn
    isplitl [T11] <;> iassumption
  iintro C1
  iapply (barrier m ρ c K (O1 c) (above_O1 c) Q) $$ [HcB PB Hpb Hxb HO]
  · isplitr; · iexact HP
    isplitr [HO]
    · isplitl [HcB]; · iexact HcB
      isplitl [PB]; · iexact PB
      isplitl [Hpb] <;> iassumption
    iexact HO
  iintro ⟨HB, HO⟩
  iapply Hk
  unfold opened
  isplitr [Hx HO]
  · isplitl [HB]; · iexact HB
    isplitl [P0 P1]
    · isplitl [P0] <;> iassumption
    isplitl [C2]; · iexact C2
    isplitl [C3]; · iexact C3
    isplitl [C0] <;> iassumption
  isplitl [Hx] <;> iassumption

/-- At the start the send semaphores are in round 0. -/
theorem ctx_reachS : ctx m ρ K ⊢ reachS (F := F) c (2 * 0) := fam_persistent fun s => ctx_reached m ρ K c (.inr (oSend s))
/-- The rows granted with the first exchange's partial results are what the second broadcast sends into. -/
theorem rows_granted : iprop(emp ∗ fam fun p => xbGrant (F := F) 1 c p) ⊢ rows (F := F) c 1 := sep_elim_right

/-- The body from the first store of partial results on. -/
theorem exchange (Kt : PUnit → sProp 𝕄) :
    iprop(ctx m ρ K ∗ (opened (F := F) c ∗ whole c cc0_stg0_0 (xstg m ρ c) ∗ (∃ f, whole (F := F) c cc0_stg1_0 f) ∗ (∃ f, whole (F := F) c cc0_scratch0 f) ∗ (∃ f, whole (F := F) c cc0_scratch2 f)
        ∗ (posS (F := F) c 0 ∗ posR (F := F) c 0 ∗ posA (F := F) c 0 ∗ atPos (ER (F := F)) (wC c 2) 0 ∅ 0 ∗ atPos (ER (F := F)) (wC c 3) 0 ∅ 0)
        ∗ (tokS (F := F) c 0 ∗ tokS (F := F) c 1 ∗ tokS (F := F) c 2 ∗ tokS (F := F) c 3 ∗ tokS (F := F) c 4)
        ∗ (tokR (F := F) c 0 ∗ tokR (F := F) c 1 ∗ tokR (F := F) c 2) ∗ (tokA (F := F) c 0 ∗ tokA (F := F) c 1)
        ∗ (credR (F := F) c 0 ∗ credR (F := F) c 1 ∗ credR (F := F) c 2) ∗ credA (F := F) c 0 ∗ credA (F := F) c 1) ∗ owing c (O1 c))
      ⊢ iprop((scratch (F := F) c ∗ zeros (F := F) c ∗ owing c 0 ∗ whole c cc0_stg0_0 (xstg m ρ c) ∗ whole c cc0_stg1_0 (outAt m ρ c) -∗ Kt ⟨⟩)
        -∗ WP c (
          (psStore (k0_pay3 (k0_pay2 (k0_pay1 (xstg m ρ c) (ldI (w1 m c) 0)) (ldO (w2 m c) 0)))).bind fun _ =>
          (loop (rsSend c) 32 le_rfl).bind fun _ =>
          (wiWait (Memref.whole main_arg3) (Memref.isWhole_whole _) 1 2).bind fun _ =>
          (woWait (Memref.whole main_arg4) (Memref.isWhole_whole _) 1 3).bind fun _ =>
          (wiLoad 1).bind fun wi1 =>
          (woLoad 1).bind fun wo1 =>
          (loop rsRecv 32 le_rfl).bind fun _ =>
          pbLoad.bind fun r0 =>
          (loop (rsDone c) 32 le_rfl).bind fun _ =>
          (agStore (k0_pay7 (k0_pay6 r0))).bind fun _ =>
          (loop (agSend c) 32 le_rfl).bind fun _ =>
          (loop agRecv 32 le_rfl).bind fun _ =>
          xbLoad.bind fun x1 =>
          (loop (agDone c) 32 le_rfl).bind fun _ =>
          (psStore (k0_pay8 (k0_pay4 wi1) (k0_pay5 wo1) x1)).bind fun _ =>
          (loop (rsSend c) 32 le_rfl).bind fun _ =>
          (wiWait (Memref.whole main_arg5) (Memref.isWhole_whole _) 0 0).bind fun _ =>
          (woWait (Memref.whole main_arg6) (Memref.isWhole_whole _) 0 1).bind fun _ =>
          (wiLoad 0).bind fun wi2 =>
          (woLoad 0).bind fun wo2 =>
          (loop rsRecv 32 le_rfl).bind fun _ =>
          pbLoad.bind fun r1 =>
          (loop (rsDone c) 32 le_rfl).bind fun _ =>
          (agStore (k0_pay12 (k0_pay11 r1))).bind fun _ =>
          (loop (agSend c) 32 le_rfl).bind fun _ =>
          (loop agRecv 32 le_rfl).bind fun _ =>
          xbLoad.bind fun x2 =>
          (loop (agDone c) 32 le_rfl).bind fun _ =>
          (psStore (k0_pay13 (k0_pay9 wi2) (k0_pay10 wo2) x2)).bind fun _ =>
          (loop (rsSend c) 32 le_rfl).bind fun _ =>
          (loop rsRecv 32 le_rfl).bind fun _ =>
          pbLoad.bind fun r2 =>
          (loop (rsDone c) 32 le_rfl).bind fun _ =>
          outStore (Memref.whole cc0_stg1_0) (k0_pay14 r2)) Kt) := by
  unfold opened
  iintro ⟨#HP, ⟨⟨⟨PB, Hsl, Hrows⟩, ⟨P0, P1⟩, C2, C3, C0, C1⟩, Hx, ⟨%fo, Hout⟩, ⟨%fp, Hps⟩, Hag, ⟨PS_, PR, PA, P2, P3⟩, ⟨TS0, TS1, TS2, TS3, TS4⟩, ⟨TR0, TR1, TR2⟩, ⟨TA0, TA1⟩,
    ⟨CR0, CR1, CR2⟩, CA0, CA1⟩, HO⟩ Hk
  -- the first layer
  iapply (ps_store c fp (PS0 m ρ c) Kt) $$ Hps
  iintro Hps
  iapply (rs_sends m ρ c K 0 (by decide) (O2 c) Kt) $$ [Hps Hsl TS0 TR0 HO]
  · isplitr; · iexact HP
    isplitr [HO]
    · isplitl [Hps]; · iexact Hps
      isplitl [Hsl]; · iexact Hsl
      isplitr; · iapply (fam_emp (F := F)); iempintro
      isplitl [TS0]; · iexact TS0
      isplitr; · iapply (ctx_reachS m ρ c K); iexact HP
      iexact TR0
    iexact HO
  iintro ⟨Hs, HO⟩
  iapply (wi_wait m ρ c K (Memref.whole main_arg3) (Memref.isWhole_whole _) 1 2 0 (by decide) rfl (O2 c) ((above_O2 c).mono (Nat.zero_le _)) Kt) $$ [C2 P2 HO]
  · isplitr; · iexact HP
    isplitr [HO]
    · isplitl [C2] <;> iassumption
    iexact HO
  iintro ⟨⟨P2, -, Hwi1⟩, HO⟩
  iapply (wo_wait m ρ c K (Memref.whole main_arg4) (Memref.isWhole_whole _) 1 3 0 (by decide) rfl (O2 c) ((above_O2 c).mono (Nat.zero_le _)) Kt) $$ [C3 P3 HO]
  · isplitr; · iexact HP
    isplitr [HO]
    · isplitl [C3] <;> iassumption
    iexact HO
  iintro ⟨⟨P3, -, Hwo1⟩, HO⟩
  ihave Hwi1 := (Entails.of_eq (show wPay m 0 c 2 = wiPts c 1 (twiceI (w3 m c)) from rfl)) $$ Hwi1
  ihave Hwo1 := (Entails.of_eq (show wPay m 0 c 3 = woPts c 1 (twiceO (w4 m c)) from rfl)) $$ Hwo1
  iapply (wi_load c 1 (w3 m c) Kt) $$ Hwi1
  iintro Hwi1
  iapply (wo_load c 1 (w4 m c) Kt) $$ Hwo1
  iintro Hwo1
  iapply (layer m ρ c K 0 (by decide) (O3 c) (above_O3 c) (rows (F := F) c 0) (sep_elim_left) (fun r => k0_pay7 (k0_pay6 r)) rfl Kt) $$ [Hs CR0 PR PS_ Hag Hrows TS1 TA0 CA0 PA HO]
  · isplitr; · iexact HP
    isplitr [HO]
    · isplitl [Hs]; · iexact Hs
      isplitl [CR0]; · iexact CR0
      isplitl [PR]; · iexact PR
      isplitl [PS_]; · iexact PS_
      isplitl [Hag]; · iexact Hag
      isplitl [Hrows]; · iexact Hrows
      isplitl [TS1]; · iexact TS1
      isplitl [TA0]; · iexact TA0
      isplitl [CA0]; · iexact CA0
      iexact PA
    iexact HO
  iintro ⟨⟨PR, PS_, RS, PA, RA, Hps, Hag, Hxb, Hsl⟩, HO⟩
  -- the second layer
  iapply (ps_store c _ (PS1 m ρ c) Kt) $$ Hps
  iintro Hps
  iapply (rs_sends m ρ c K 1 (by decide) (O4 c) Kt) $$ [Hps Hsl Hxb RA TS2 RS TR1 HO]
  · isplitr; · iexact HP
    isplitr [HO]
    · isplitl [Hps]; · iexact Hps
      isplitl [Hsl]; · iexact Hsl
      isplitl [Hxb RA]
      · iapply (grant_xb c _)
        isplitl [Hxb]; · iexact Hxb
        iexact RA
      isplitl [TS2]; · iexact TS2
      isplitl [RS]; · iexact RS
      iexact TR1
    iexact HO
  iintro ⟨Hs, HO⟩
  iapply (wi_wait m ρ c K (Memref.whole main_arg5) (Memref.isWhole_whole _) 0 0 1 (by decide) rfl (O4 c) ((above_O4 c).mono (Nat.zero_le _)) Kt) $$ [C0 P0 HO]
  · isplitr; · iexact HP
    isplitr [HO]
    · isplitl [C0] <;> iassumption
    iexact HO
  iintro ⟨⟨P0, -, Hwi0⟩, HO⟩
  iapply (wo_wait m ρ c K (Memref.whole main_arg6) (Memref.isWhole_whole _) 0 1 1 (by decide) rfl (O4 c) ((above_O4 c).mono (Nat.zero_le _)) Kt) $$ [C1 P1 HO]
  · isplitr; · iexact HP
    isplitr [HO]
    · isplitl [C1] <;> iassumption
    iexact HO
  iintro ⟨⟨P1, -, Hwo0⟩, HO⟩
  ihave Hwi0 := (Entails.of_eq (show wPay m 1 c 0 = wiPts c 0 (twiceI (w5 m c)) from rfl)) $$ Hwi0
  ihave Hwo0 := (Entails.of_eq (show wPay m 1 c 1 = woPts c 0 (twiceO (w6 m c)) from rfl)) $$ Hwo0
  iapply (wi_load c 0 (w5 m c) Kt) $$ Hwi0
  iintro Hwi0
  iapply (wo_load c 0 (w6 m c) Kt) $$ Hwo0
  iintro Hwo0
  iapply (layer m ρ c K 1 (by decide) (O5 c) (above_O5 c) iprop(emp) (rows_granted c) (fun r => k0_pay12 (k0_pay11 r)) rfl Kt) $$ [Hs CR1 PR PS_ Hag TS3 TA1 CA1 PA HO]
  · isplitr; · iexact HP
    isplitr [HO]
    · isplitl [Hs]; · iexact Hs
      isplitl [CR1]; · iexact CR1
      isplitl [PR]; · iexact PR
      isplitl [PS_]; · iexact PS_
      isplitl [Hag]; · iexact Hag
      isplitr; · iempintro
      isplitl [TS3]; · iexact TS3
      isplitl [TA1]; · iexact TA1
      isplitl [CA1]; · iexact CA1
      iexact PA
    iexact HO
  iintro ⟨⟨PR, PS_, RS, PA, RA, Hps, Hag, Hxb, Hsl⟩, HO⟩
  -- the third layer
  iapply (ps_store c _ (PS2 m ρ c) Kt) $$ Hps
  iintro Hps
  iapply (rs_sends m ρ c K 2 (by decide) 0 Kt) $$ [Hps Hsl TS4 RS TR2 HO]
  · isplitr; · iexact HP
    isplitr [HO]
    · isplitl [Hps]; · iexact Hps
      isplitl [Hsl]; · iexact Hsl
      isplitr; · iapply (fam_emp (F := F)); iempintro
      isplitl [TS4]; · iexact TS4
      isplitl [RS]; · iexact RS
      iexact TR2
    iexact HO
  iintro ⟨Hs, HO⟩
  iapply (rs_recvs m ρ c K 2 (by decide) 0 (Above.zero _) Kt) $$ [CR2 PR HO]
  · isplitr; · iexact HP
    isplitr [HO]
    · isplitl [CR2]; · iexact CR2
      iexact PR
    iexact HO
  iintro ⟨⟨PR, -, Hpb, -⟩, HO⟩
  iapply (pb_load c _ Kt) $$ Hpb
  iintro Hpb
  iapply (rs_dones m ρ c K 2 (by decide) 0 (Above.zero _) Kt) $$ [Hs PS_ HO]
  · isplitr; · iexact HP
    isplitr [HO]
    · isplitl [Hs]; · iexact Hs
      iexact PS_
    iexact HO
  iintro ⟨⟨PS_, -, Hps⟩, HO⟩
  -- the counters are back at zero
  imod (close_all m ρ c K) $$ [PB PS_ PR PA P0 P1 P2 P3] with HZ
  · isplitr; · iexact HP
    unfold pos₁
    isplitl [PB]; · iexact PB
    isplitl [PS_]; · iexact PS_
    isplitl [PR]; · iexact PR
    isplitl [PA]; · iexact PA
    isplitl [P0]; · iexact P0
    isplitl [P1]; · iexact P1
    isplitl [P2]; · iexact P2
    iexact P3
  iapply (out_store c fo (outAt m ρ c) Kt)
  isplitl [Hout]; · iexact Hout
  iintro Hout
  iapply Hk
  isplitl [Hps Hpb Hag Hxb Hwi0 Hwi1 Hwo0 Hwo1]
  · unfold scratch
    isplitl [Hps]; · iexists _; iexact Hps
    isplitl [Hpb]; · iexists _; iexact Hpb
    isplitl [Hag]; · iexact Hag
    isplitl [Hxb]; · iexists _; iexact Hxb
    isplitl [Hwi0 Hwi1]
    · iapply (wi_paste c (twiceI (w5 m c)))
      isplitl [Hwi0]; · iexists _; iexact Hwi0
      iexists _; iexact Hwi1
    iapply (wo_paste c (twiceO (w6 m c)))
    isplitl [Hwo0]; · iexists _; iexact Hwo0
    iexists _; iexact Hwo1
  isplitl [HZ]; · iexact HZ
  isplitl [HO]; · iexact HO
  isplitl [Hx] <;> iassumption

/-- What the body starts from, beside the windows. -/
def begin : sProp 𝕄 :=
  iprop(ctx m ρ K ∗ pos₀ (F := F) c ∗ duties (F := F) c ∗ credits (F := F) c ∗ halves m c ∗ scratch (F := F) c)

/-- The body, from the start to the end. -/
theorem sound_body (Kt : PUnit → sProp 𝕄) :
    iprop(begin m ρ c K ∗ owing c (O₀ c) ∗ whole c cc0_stg0_0 (xstg m ρ c) ∗ (∃ f, whole (F := F) c cc0_stg1_0 f))
      ⊢ iprop((scratch (F := F) c ∗ zeros (F := F) c ∗ owing c 0 ∗ whole c cc0_stg0_0 (xstg m ρ c) ∗ whole c cc0_stg1_0 (outAt m ρ c) -∗ Kt ⟨⟩)
        -∗ WP c (body (Memref.whole cc0_stg0_0) (Memref.whole cc0_stg1_0)) Kt) := by
  unfold begin pos₀ duties credits scratch body
  have hex := exchange m ρ c K Kt
  unfold scratch at hex
  rw [lift_bind]
  simp only [wp_deviceId]
  iintro ⟨⟨#HP, ⟨PB, PS_, PR, PA, P0, P1, P2, P3⟩, ⟨TB, TS, TR, TA, TW⟩, ⟨CB, CR, CA⟩, Hh, ⟨S0, S1, S2, S3, S4, S5⟩⟩, HO, Hx, Hout⟩ Hk
  iapply (opening m ρ c K Kt) $$ [Hh S4 S5 S1 S3 TW P0 P1 PB TB CB Hx HO]
  · isplitr; · iexact HP
    isplitr [HO]
    · isplitl [Hh]; · iexact Hh
      isplitl [S4]; · iexact S4
      isplitl [S5]; · iexact S5
      isplitl [S1]; · iexact S1
      isplitl [S3]; · iexact S3
      isplitl [TW]; · iexact TW
      isplitl [P0 P1 PB]
      · isplitl [P0]; · iexact P0
        isplitl [P1] <;> iassumption
      isplitl [TB]; · iexact TB
      isplitl [CB]; · iexact CB
      iexact Hx
    iexact HO
  iintro ⟨Hop, Hx, HO⟩
  iapply hex $$ [Hop Hx Hout S0 S2 PS_ PR PA P2 P3 TS TR TA CR CA HO]
  · isplitr; · iexact HP
    isplitr [HO]
    · isplitl [Hop]; · iexact Hop
      isplitl [Hx]; · iexact Hx
      isplitl [Hout]; · iexact Hout
      isplitl [S0]; · iexact S0
      isplitl [S2]; · iexact S2
      isplitl [PS_ PR PA P2 P3]
      · isplitl [PS_]; · iexact PS_
        isplitl [PR]; · iexact PR
        isplitl [PA]; · iexact PA
        isplitl [P2] <;> iassumption
      isplitl [TS]; · iexact TS
      isplitl [TR]; · iexact TR
      isplitl [TA]; · iexact TA
      isplitl [CR]; · iexact CR
      iexact CA
    iexact HO
  iexact Hk

end Cert.KernelIdeal.Ring

end
-- ==== Proof.Glob.lean ====
module

public import proofs.«01_k».proof.Proof.Body

@[expose] public section

/-! # The launch's ghost state

The cells and duties dealt at launch, regrouped so that every device holds the duties it pays; and the credits. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The cells and the duties -/

/-- All cells of the protocol. -/
def allCells : Finset (GSem nD τ sig) := Finset.univ.map ⟨kcell, kcell_inj⟩

/-- The duties of one device's cells: whose signal; which send, in which round; whose partial results or row pair, in which
    layer; which weights, in which round. (Two are never used: the second round of the last two weight semaphores.) -/
abbrev Job : Type := Fin 32 ⊕ (Fin 32 × Fin 5) ⊕ (Fin 32 × Fin 3) ⊕ (Fin 32 × Fin 2) ⊕ (Fin 4 × Fin 2)

def jobKind : Job → Kind
  | .inl _ => kBar
  | .inr (.inl x) => .inr (oSend x.1)
  | .inr (.inr (.inl x)) => .inr (oRs x.1)
  | .inr (.inr (.inr (.inl x))) => .inr (oAg x.1)
  | .inr (.inr (.inr (.inr x))) => .inr (oW x.1)
def jobRound : Job → ℕ
  | .inl _ => 0
  | .inr (.inl x) => x.2.val
  | .inr (.inr (.inl x)) => x.2.val
  | .inr (.inr (.inr (.inl x))) => x.2.val
  | .inr (.inr (.inr (.inr x))) => x.2.val
/-- Who pays. -/
def jobPayer (c : Dev nD) : Job → Fin 32
  | .inl d => d
  | .inr (.inl _) => c
  | .inr (.inr (.inl x)) => x.1
  | .inr (.inr (.inr (.inl x))) => x.1
  | .inr (.inr (.inr (.inr _))) => c

/-- A duty as it is dealt: cell, round, payer. -/
def tokOf (cj : Dev nD × Job) : GSem nD τ sig × ℕ × Fin 32 := (kcell (cj.1, jobKind cj.2), jobRound cj.2, jobPayer cj.1 cj.2)

/-- A device's duties differ in semaphore, round or payer. -/
theorem job_inj (c : Dev nD) (j j' : Job) (h1 : jobKind j = jobKind j') (h2 : jobRound j = jobRound j') (h3 : jobPayer c j = jobPayer c j') : j = j' := by
  rcases j with d | ⟨s, r⟩ | ⟨s, r⟩ | ⟨s, r⟩ | ⟨s, r⟩ <;> rcases j' with d' | ⟨s', r'⟩ | ⟨s', r'⟩ | ⟨s', r'⟩ | ⟨s', r'⟩ <;>
    simp only [jobKind, jobRound, jobPayer, Sum.inr.injEq, Sum.inl.injEq, reduceCtorEq] at h1 h2 h3
  · rw [h3]
  all_goals rw [h1, Fin.ext h2]

/-- Different duties have different tokens. -/
theorem tokOf_inj : Function.Injective tokOf := fun a b h => by
  have h1 : kcell (a.1, jobKind a.2) = kcell (b.1, jobKind b.2) := congrArg Prod.fst h
  have h2 := kcell_inj h1
  have hc : a.1 = b.1 := (Prod.mk.inj h2).1
  have hr : jobRound a.2 = jobRound b.2 := congrArg (fun x : GSem nD τ sig × ℕ × Fin 32 => x.2.1) h
  have hp : jobPayer a.1 a.2 = jobPayer b.1 b.2 := congrArg (fun x : GSem nD τ sig × ℕ × Fin 32 => x.2.2) h
  exact Prod.ext hc (job_inj a.1 _ _ (Prod.mk.inj h2).2 hr (by rw [hp, hc]))

def allToks : Finset (GSem nD τ sig × ℕ × Fin 32) := Finset.univ.map ⟨tokOf, tokOf_inj⟩

/-- The duties of device `c`'s cells, before they go to those who pay. -/
def dealt (c : Dev nD) : sProp 𝕄 :=
  bigSep Finset.univ fun j : Job => dutyTok (ER (F := F)) (tokOf (c, j)).1 (tokOf (c, j)).2.1 (tokOf (c, j)).2.2

/-- What the launch deals device `c`. -/
def G (c : Dev nD) : sProp 𝕄 :=
  iprop((bigSep Finset.univ fun k : Kind => roundState (ER (F := F)) (sched m ρ) (kcell (c, k)) 0)
    ∗ (bigSep Finset.univ fun k : Kind => reached (ER (F := F)) (kcell (c, k)) 0) ∗ (bigSep Finset.univ fun k : Kind => atPos (ER (F := F)) (kcell (c, k)) 0 ∅ 0) ∗ dealt (F := F) c)

/-- The initial ghost state splits into each device's share. -/
theorem fund_all : BI.own ((ER (F := F)) (initOf allCells allToks)) ⊢ (|==> bigSep Finset.univ (G (F := F) m ρ) : sProp 𝕄) := by
  have hX (Φ : GSem nD τ sig → sProp 𝕄) : bigSep allCells Φ = bigSep Finset.univ fun c : Dev nD => bigSep Finset.univ fun k : Kind => Φ (kcell (c, k)) := by
    unfold allCells; rw [BI.bigSep_map, BI.bigSep_univ_prod]; rfl
  have hT : bigSep allToks (fun x => (dutyTok (ER (F := F)) x.1 x.2.1 x.2.2 : sProp 𝕄)) = bigSep Finset.univ fun c : Dev nD => dealt (F := F) c := by
    unfold allToks dealt; rw [BI.bigSep_map, BI.bigSep_univ_prod]; rfl
  iintro HX
  imod (Rounds.fund (ER (F := F)) (sched m ρ) allCells allToks) $$ HX with ⟨Hst, Hr, Hat, Htok⟩
  imodintro
  ihave Hst' := (Entails.of_eq (hX fun g => roundState (ER (F := F)) (sched m ρ) g 0)) $$ Hst
  ihave Hat' := (Entails.of_eq (hX fun g => atPos (ER (F := F)) g 0 ∅ 0)) $$ Hat
  ihave Hr' := (Entails.of_eq (hX fun g => reached (ER (F := F)) g 0)) $$ Hr
  ihave Htok' := (Entails.of_eq hT) $$ Htok
  unfold G
  rw [bs_sep, bs_sep, bs_sep]
  isplitl [Hst']; · iexact Hst'
  isplitl [Hr']; · iexact Hr'
  isplitl [Hat']; · iexact Hat'
  iexact Htok'

/-! ## The duties to those who pay -/

/-- A conjunction over five, written out. -/
theorem bs_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
/-- A conjunction over four, written out. -/
theorem bs_fin4 (Φ : Fin 4 → sProp 𝕄) : bigSep Finset.univ Φ = iprop(Φ 0 ∗ Φ 1 ∗ Φ 2 ∗ Φ 3) := bigSep_univ_eq_bigSepL [0, 1, 2, 3] (by decide) (by decide) Φ
/-- A conjunction over three, written out. -/
theorem bs_fin3 (Φ : Fin 3 → sProp 𝕄) : bigSep Finset.univ Φ = iprop(Φ 0 ∗ Φ 1 ∗ Φ 2) := bigSep_univ_eq_bigSepL [0, 1, 2] (by decide) (by decide) Φ
/-- A conjunction over a sum type is one over each side. -/
theorem bs_sum {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ
/-- A conjunction over pairs is one of conjunctions. -/
theorem bs_prod {A B : Type} [Fintype A] [Fintype B] (Φ : A × B → sProp 𝕄) :
    bigSep Finset.univ Φ = bigSep Finset.univ fun b => bigSep Finset.univ fun a => Φ (a, b) := by
  rw [BI.bigSep_univ_prod]; exact BI.bigSep_univ_comm _

/-- The duties of device `c`'s cells, kind by kind. -/
theorem dealt_eq (c : Dev nD) : dealt (F := F) c = iprop((fam fun d => dutyTok (ER (F := F)) (barC c) 0 d)
    ∗ (tokS (F := F) c 0 ∗ tokS (F := F) c 1 ∗ tokS (F := F) c 2 ∗ tokS (F := F) c 3 ∗ tokS (F := F) c 4)
    ∗ ((fam fun p => dutyTok (ER (F := F)) (rsC c p) 0 p) ∗ (fam fun p => dutyTok (ER (F := F)) (rsC c p) 1 p) ∗ fam fun p => dutyTok (ER (F := F)) (rsC c p) 2 p)
    ∗ ((fam fun p => dutyTok (ER (F := F)) (agC c p) 0 p) ∗ fam fun p => dutyTok (ER (F := F)) (agC c p) 1 p)
    ∗ (dutyTok (ER (F := F)) (wC c 0) 0 c ∗ dutyTok (ER (F := F)) (wC c 1) 0 c ∗ dutyTok (ER (F := F)) (wC c 2) 0 c ∗ dutyTok (ER (F := F)) (wC c 3) 0 c)
    ∗ dutyTok (ER (F := F)) (wC c 0) 1 c ∗ dutyTok (ER (F := F)) (wC c 1) 1 c ∗ dutyTok (ER (F := F)) (wC c 2) 1 c ∗ dutyTok (ER (F := F)) (wC c 3) 1 c) := by
  unfold dealt
  rw [bs_sum, bs_sum, bs_sum, bs_sum, bs_prod, bs_prod, bs_prod, bs_prod, bs_fin5, bs_fin3, bigSep_univ_two, bigSep_univ_two, bs_fin4, bs_fin4]
  rfl

/-- Between the cells' view of a family of duties and the payers'. -/
theorem turn (Φ : Fin 32 → Fin 32 → sProp 𝕄) : (bigSep Finset.univ fun c : Dev nD => fam fun p => Φ c p) = bigSep Finset.univ fun c : Dev nD => fam fun s => Φ s c :=
  BI.bigSep_univ_comm _

/-- Two families that agree in sum may be exchanged beside others. -/
theorem both {A A' B B' : Dev nD → sProp 𝕄} (h1 : bigSep Finset.univ A = bigSep Finset.univ A') (h2 : bigSep Finset.univ B = bigSep Finset.univ B') :
    (bigSep Finset.univ fun c => iprop(A c ∗ B c)) = bigSep Finset.univ fun c => iprop(A' c ∗ B' c) := by
  rw [bs_sep, bs_sep, h1, h2]

/-- One device's tokens, sorted by what they are for. -/
theorem deal_one (c : Dev nD) : iprop((fam fun e => dutyTok (ER (F := F)) (barC e) 0 c)
    ∗ (tokS (F := F) c 0 ∗ tokS (F := F) c 1 ∗ tokS (F := F) c 2 ∗ tokS (F := F) c 3 ∗ tokS (F := F) c 4)
    ∗ (tokR (F := F) c 0 ∗ tokR (F := F) c 1 ∗ tokR (F := F) c 2) ∗ (tokA (F := F) c 0 ∗ tokA (F := F) c 1)
    ∗ (dutyTok (ER (F := F)) (wC c 0) 0 c ∗ dutyTok (ER (F := F)) (wC c 1) 0 c ∗ dutyTok (ER (F := F)) (wC c 2) 0 c ∗ dutyTok (ER (F := F)) (wC c 3) 0 c)
    ∗ dutyTok (ER (F := F)) (wC c 0) 1 c ∗ dutyTok (ER (F := F)) (wC c 1) 1 c ∗ dutyTok (ER (F := F)) (wC c 2) 1 c ∗ dutyTok (ER (F := F)) (wC c 3) 1 c)
    ⊢ duties (F := F) c := by
  rw [fam_fwd c]
  unfold duties tokB
  iintro ⟨⟨-, HB⟩, HS, HR, HA, ⟨W00, W10, W2, W3⟩, W01, W11, -, -⟩
  isplitl [HB]; · iexact HB
  isplitl [HS]; · iexact HS
  isplitl [HR]; · iexact HR
  isplitl [HA]; · iexact HA
  isplitl [W00]; · iexact W00
  isplitl [W01]; · iexact W01
  isplitl [W10]; · iexact W10
  isplitl [W11]; · iexact W11
  isplitl [W2]; · iexact W2
  iexact W3

/-- The tokens of the duties on each device's semaphores, handed to the devices that pay them. -/
theorem deal : (bigSep Finset.univ fun c : Dev nD => dealt (F := F) c) ⊢ bigSep Finset.univ fun c : Dev nD => duties (F := F) c := by
  refine BIBase.Entails.trans (Entails.of_eq ?_) (bs_mono fun c _ => deal_one c)
  rw [funext fun c => dealt_eq (F := F) c]
  refine both (turn fun e c => dutyTok (ER (F := F)) (barC e) 0 c) (both rfl (both (both ?_ (both ?_ ?_)) (both (both ?_ ?_) rfl)))
  · exact turn fun e c => dutyTok (ER (F := F)) (rsC e c) 0 c
  · exact turn fun e c => dutyTok (ER (F := F)) (rsC e c) 1 c
  · exact turn fun e c => dutyTok (ER (F := F)) (rsC e c) 2 c
  · exact turn fun e c => dutyTok (ER (F := F)) (agC e c) 0 c
  · exact turn fun e c => dutyTok (ER (F := F)) (agC e c) 1 c

/-! ## The invariants -/

/-- What the launch's global step makes for device `c`. -/
def G' (c : Dev nD) : sProp 𝕄 := iprop(∃ K, recs m ρ K ∗ pos₀ (F := F) c ∗ duties (F := F) c)

/-- The kernel's own semaphores at zero, by the protocol's names. -/
theorem ownSems0_eq (c : Dev nD) : (Pipeline.ownSems0 (Ix := ℕ) (Name := ℕ) (U := UU) (Lvl := ℕ) (Val := Elt F) (τ := τ) osem c : sProp 𝕄)
    = bigSep Finset.univ fun o : Own => semVal (kcell (c, .inr o)) 0 := rfl
/-- The one semaphore from outside is the barrier's. -/
theorem unscopedSems0_eq (c : Dev nD) : (unscopedSems0 c : sProp 𝕄) = semVal (barC c) 0 := by
  unfold unscopedSems0; rw [bigSep_eq_bigSepL_of_eq [SemLoc.reg barS] (by decide +kernel) (by decide)]; rfl

/-- A family over the cells of one device, kind by kind. -/
theorem kinds_eq (Φ : Kind → sProp 𝕄) : bigSep Finset.univ Φ = iprop(Φ kBar ∗ bigSep Finset.univ fun o : Own => Φ (.inr o)) := by
  rw [bs_sum]
  exact congrArg₂ BI.sep (BI.bigSep_singleton (i := ())) rfl
/-- A conjunction over the own semaphores, kind by kind. -/
theorem own_eq (Φ : Own → sProp 𝕄) : bigSep Finset.univ Φ = iprop((fam fun s => Φ (oSend s)) ∗ (fam fun p => Φ (oRs p)) ∗ (fam fun p => Φ (oAg p)) ∗ Φ (oW 0) ∗ Φ (oW 1) ∗ Φ (oW 2) ∗ Φ (oW 3)) := by
  rw [bs_sum, bs_sum, bs_sum, bs_fin4]; rfl

/-- A device's semaphores at zero become the protocol's cells, each with its invariant. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : Kind => iprop(∃ κ : ℕ, cellInv (ER (F := F)) (sched m ρ) κ (kcell (c, k))))
          ∗ (bigSep Finset.univ fun k : Kind => reached (ER (F := F)) (kcell (c, k)) 0) ∗ (bigSep Finset.univ fun k : Kind => atPos (ER (F := F)) (kcell (c, k)) 0 ∅ 0) ∗ dealt (F := F) c) := by
  have hv : iprop(Pipeline.ownSems0 (Ix := ℕ) (Name := ℕ) (U := UU) (Lvl := ℕ) (Val := Elt F) (τ := τ) osem c ∗ unscopedSems0 c)
      ⊢ (bigSep Finset.univ fun k : Kind => semVal (kcell (c, k)) 0 : sProp 𝕄) := by
    rw [ownSems0_eq, unscopedSems0_eq, kinds_eq]
    iintro ⟨HO, HB⟩
    isplitl [HB]; · iexact HB
    iexact HO
  have hi : iprop((bigSep Finset.univ fun k : Kind => semVal (kcell (c, k)) 0) ∗ bigSep Finset.univ fun k : Kind => roundState (ER (F := F)) (sched m ρ) (kcell (c, k)) 0)
      ⊢ (|={Set.univ}=> bigSep Finset.univ fun k : Kind => iprop(∃ κ : ℕ, cellInv (ER (F := F)) (sched m ρ) κ (kcell (c, k))) : sProp 𝕄) := by
    rw [← bs_sep]
    exact (bs_mono fun k _ => (Rounds.body_intro (ER (F := F)) (sched m ρ) (kcell (c, k))).trans inv_alloc).trans (bigSep_fupd _ _)
  unfold G
  iintro ⟨Hos, Hus, Hst, Hr, Hat, Htok⟩
  ihave Hv := hv $$ [Hos Hus]
  · isplitl [Hos] <;> iassumption
  imod hi $$ [Hv Hst] with Hinv
  · isplitl [Hv] <;> iassumption
  imodintro
  isplitl [Hinv]; · iexact Hinv
  isplitl [Hr]; · iexact Hr
  isplitl [Hat]; · iexact Hat
  iexact Htok

/-- The positions at the start, kind by kind. -/
theorem pos_eq (c : Dev nD) : (bigSep Finset.univ fun k : Kind => atPos (ER (F := F)) (kcell (c, k)) 0 ∅ 0) = pos₀ (F := F) c := by
  rw [kinds_eq, own_eq]; rfl

/-- The cells' invariants are collected for all devices, and each device keeps its positions. -/
theorem regroup :
    (bigSep Finset.univ fun c : Dev nD => iprop((bigSep Finset.univ fun k : Kind => iprop(∃ κ : ℕ, cellInv (ER (F := F)) (sched m ρ) κ (kcell (c, k))))
          ∗ (bigSep Finset.univ fun k : Kind => reached (ER (F := F)) (kcell (c, k)) 0) ∗ (bigSep Finset.univ fun k : Kind => atPos (ER (F := F)) (kcell (c, k)) 0 ∅ 0) ∗ dealt (F := F) c) : sProp 𝕄)
      ⊢ bigSep Finset.univ (G' m ρ) := by
  rw [bs_sep, bs_sep, bs_sep]
  have hI : (bigSep Finset.univ fun c : Dev nD => bigSep Finset.univ fun k : Kind => iprop(∃ κ : ℕ, cellInv (ER (F := F)) (sched m ρ) κ (kcell (c, k))))
      = bigSep Finset.univ fun ck : Dev nD × Kind => iprop(∃ κ : ℕ, cellInv (ER (F := F)) (sched m ρ) κ (kcell ck)) :=
    (BI.bigSep_univ_prod fun ck : Dev nD × Kind => iprop(∃ κ : ℕ, cellInv (ER (F := F)) (sched m ρ) κ (kcell ck))).symm
  have hR : (bigSep Finset.univ fun c : Dev nD => bigSep Finset.univ fun k : Kind => reached (ER (F := F)) (kcell (c, k)) 0)
      = bigSep Finset.univ fun ck : Dev nD × Kind => reached (ER (F := F)) (kcell ck) 0 :=
    (BI.bigSep_univ_prod fun ck : Dev nD × Kind => reached (ER (F := F)) (kcell ck) 0).symm
  rw [hI, hR, funext fun c => pos_eq (F := F) c]
  iintro ⟨HI, #HR, Hat, Htok⟩
  ihave HK := (BI.bigSep_exists_pi Finset.univ (fun (ck : Dev nD × Kind) (κ : ℕ) => (cellInv (ER (F := F)) (sched m ρ) κ (kcell ck) : sProp 𝕄))) $$ HI
  icases HK with ⟨%K, #HI⟩
  ihave Htk := (deal (F := F)) $$ Htok
  have hG (c : Dev nD) : iprop(recs m ρ K ∗ (pos₀ (F := F) c ∗ duties (F := F) c)) ⊢ G' m ρ c := by
    unfold G'; iintro H; iexists K; iexact H
  iapply (bigSep_with_persistent (R := recs m ρ K) (Φ := fun c : Dev nD => iprop(pos₀ (F := F) c ∗ duties (F := F) c)) fun c _ => hG c)
  isplitr
  · unfold recs
    isplitl; · iexact HI
    iexact HR
  · iapply (Entails.of_eq (bs_sep (Φ := fun c : Dev nD => pos₀ (F := F) c) (Ψ := fun c : Dev nD => duties (F := F) c) Finset.univ).symm)
    isplitl [Hat]; · iexact Hat
    iexact Htk

/-- The global step of the launch. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bs_mono fun c _ => core_alloc m ρ c).trans (bigSep_fupd _ _)).trans (BI.fupd_mono (regroup m ρ))

/-! ## The credits -/

/-- What is to arrive at device `c`. -/
def due (c : Dev nD) : CellTallies nD τ sig ℕ :=
  (((((∑ p : Fin 32, tallyAt (rsC c p) 2 N) + ∑ p : Fin 32, tallyAt (agC c p) 1 N) + ∑ p : Fin 32, tallyAt (rsC c p) 1 N) + ∑ p : Fin 32, tallyAt (agC c p) 0 N)
    + ∑ p : Fin 32, tallyAt (rsC c p) 0 N) + tallyAt (barC c) 0 31

/-- Units owed to one cell add up to their number. -/
theorem sum_ones (g : GSem nD τ sig) (S : Finset (Fin 32)) : (∑ _i ∈ S, tallyAt g (0 : ℕ) 1 : CellTallies nD τ sig ℕ) = tallyAt g 0 S.card := by
  induction S using Finset.induction_on with
  | empty => rw [Finset.sum_empty, Finset.card_empty, tallyAt_zero]
  | insert a S ha ih => rw [Finset.sum_insert ha, ih, tallyAt_add, Finset.card_insert_of_notMem ha, add_comm]

/-- What the devices owe is what falls due on them. -/
theorem due_sum : (∑ d, O₀ d) = ∑ c, due c := by
  have hR (k : ℕ) : (∑ d : Dev nD, rsDue k d Finset.univ) = ∑ c : Dev nD, ∑ p : Fin 32, tallyAt (rsC c p) k N := Finset.sum_comm
  have hA (k : ℕ) : (∑ d : Dev nD, agDue k d Finset.univ) = ∑ c : Dev nD, ∑ p : Fin 32, tallyAt (agC c p) k N := Finset.sum_comm
  have hB : (∑ d : Dev nD, barDue d (Finset.univ.erase 0)) = ∑ c : Dev nD, tallyAt (barC c) 0 31 := by
    unfold barDue
    rw [Finset.sum_comm]
    have h (i : Fin 32) : (∑ d : Dev nD, tallyAt (barC (fwd d i)) 0 1 : CellTallies nD τ sig ℕ) = ∑ c : Dev nD, tallyAt (barC c) 0 1 :=
      Finset.sum_bijective (fun d : Dev nD => fwd d i)
        ((Fintype.bijective_iff_injective_and_card _).mpr ⟨fun a b hab => (show ∀ i a b : Fin 32, fwd a i = fwd b i → a = b by decide +kernel) i a b hab, rfl⟩)
        (fun d => iff_of_true (Finset.mem_univ _) (Finset.mem_univ _)) (fun d _ => rfl)
    rw [Finset.sum_congr rfl fun i _ => h i, Finset.sum_comm]
    exact Finset.sum_congr rfl fun c _ => (sum_ones (barC c) _).trans (congrArg _ (by decide))
  unfold O₀ O1 O2 O3 O4 O5 due
  simp only [zero_add, Finset.sum_add_distrib]
  rw [hR, hR, hR, hA, hA, hB]

/-- What falls due on a device falls due on its own semaphores. -/
theorem due_own (d : Dev nD) (g : GSem nD τ sig) (h : due d g ≠ 0) : g.1 = (d.tc : Thread nD τ) := by
  by_contra hg
  refine h ?_
  have hz (sm : SemLoc sig) (u a : ℕ) : (tallyAt ((d.tc : Thread nD τ), sm) u a : CellTallies nD τ sig ℕ) g = 0 :=
    tallyAt_ne_cell (fun h' => hg (congrArg Prod.fst h')) u a
  unfold due
  simp only [Pi.add_apply, Finset.sum_apply, hz, Finset.sum_const_zero, add_zero]

/-- Credit for a sum is credit for each part. -/
theorem cred_fam (f : Fin 32 → CellTallies nD τ sig ℕ) : (cred (∑ p, f p) : sProp 𝕄) ⊢ fam fun p => cred (f p) := by
  suffices h : ∀ S : Finset (Fin 32), (cred (∑ p ∈ S, f p) : sProp 𝕄) ⊢ bigSep S fun p => cred (f p) from h _
  intro S
  induction S using Finset.induction_on with
  | empty => rw [Finset.sum_empty, bs_empty, cred_zero]
  | insert a S ha ih =>
    rw [Finset.sum_insert ha, bs_insert ha]
    exact (cred_add _ _).1.trans (sep_mono_right ih)

/-- A device's credit at launch, sorted by semaphore. -/
theorem creds (c : Dev nD) : (Pipeline.launchCred O₀ c : sProp 𝕄) ⊢ credits (F := F) c := by
  rw [Pipeline.launchCred_of_sum O₀ due due_sum due_own c]
  unfold due credits credR credA
  iintro H
  ihave H := (cred_add _ _).1 $$ H
  icases H with ⟨H, HB⟩
  ihave H := (cred_add _ _).1 $$ H
  icases H with ⟨H, R0⟩
  ihave H := (cred_add _ _).1 $$ H
  icases H with ⟨H, A0⟩
  ihave H := (cred_add _ _).1 $$ H
  icases H with ⟨H, R1⟩
  ihave H := (cred_add _ _).1 $$ H
  icases H with ⟨R2, A1⟩
  isplitl [HB]; · iexact HB
  isplitl [R0 R1 R2]
  · isplitl [R0]; · ihave H := (cred_fam fun p => tallyAt (rsC c p) 0 N) $$ R0; iexact H
    isplitl [R1]; · ihave H := (cred_fam fun p => tallyAt (rsC c p) 1 N) $$ R1; iexact H
    ihave H := (cred_fam fun p => tallyAt (rsC c p) 2 N) $$ R2; iexact H
  isplitl [A0]; · ihave H := (cred_fam fun p => tallyAt (agC c p) 0 N) $$ A0; iexact H
  ihave H := (cred_fam fun p => tallyAt (agC c p) 1 N) $$ A1; iexact H

end Cert.KernelIdeal.Ring

end
-- ==== Proof.Run.lean ====
module

public import proofs.«01_k».proof.Proof.Glob
public import Idealize.ShloMosaic.Lib.Pipeline.CollectiveSegs

@[expose] public section

/-! # The run

The kernel's pipeline data, its body as the pipeline runs it, and the run of the whole mesh. -/

noncomputable section

namespace Cert.KernelIdeal.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's data -/

/-- What device `c` has before its body, the scratch buffers aside. -/
def start (c : Dev nD) : sProp 𝕄 := iprop(∃ K, ctx m ρ K ∗ pos₀ (F := F) c ∗ duties (F := F) c ∗ credits (F := F) c ∗ halves m c)
/-- Before the body. -/
def Φ₀ (c : Dev nD) : sProp 𝕄 := iprop(start m ρ c ∗ scratch (F := F) c)
/-- After it. -/
def Φ₁ (c : Dev nD) : sProp 𝕄 := iprop(scratch (F := F) c ∗ zeros (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- A conjunction over the two windows. -/
theorem bs_W (Φ : Fin cfg0.W → sProp 𝕄) : bigSep Finset.univ Φ = iprop(Φ (0 : Fin 2) ∗ Φ (1 : Fin 2)) := bigSep_W0 Φ

/-- Owning a whole buffer is its points-to. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body's obligation -/

abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
def before (c : Dev nD) : sProp 𝕄 :=
  iprop(Φ₀ m ρ c ∗ (dats m ρ 0 c).owesAt 0 t0_0.castSucc
    ∗ (∃ d, staged c cc0_stg0_0 ((dats m ρ 0 c).before (0 : Fin 2) t0_0 d))
    ∗ (∃ d, staged c cc0_stg1_0 ((dats m ρ 0 c).before (1 : Fin 2) t0_0 d)))

set_option maxRecDepth 4000 in
def after (c : Dev nD) : sProp 𝕄 :=
  iprop(Φ₁ (F := F) c ∗ (dats m ρ 0 c).owesAt 0 t0_0.succ ∗ staged c cc0_stg0_0 (xstg m ρ c) ∗ staged c cc0_stg1_0 (outAt m ρ c))

set_option maxRecDepth 4000 in
/-- The body from what the pipeline hands it to what the pipeline takes back. -/
theorem body_run (c : Dev nD) : before m ρ c ⊢ WP c (body (Memref.whole cc0_stg0_0) (Memref.whole cc0_stg1_0)) (fun _ => after m ρ c) := by
  unfold before Φ₀ start
  iintro ⟨⟨⟨%K, HP, Hpos, Hdut, Hcr, Hha⟩, Hscr⟩, Ho, ⟨%d0, %g0, %hg0, Hx⟩, ⟨%d1, %g1, %hg1, Hout⟩⟩
  unfold Dat.owesAt Pipeline.owesWithin
  icases Ho with ⟨%W, %hW, HO⟩
  rw [show (dats m ρ 0 c).owed t0_0.castSucc = O₀ c from rfl]
  have hx : g0 = xstg m ρ c := by rw [hg0]; unfold Dat.before; rw [if_pos (show (cfg0.win (0 : Fin 2)).fetch t0_0 = true from rfl)]; rfl
  subst hx
  iapply (sound_body m ρ c K fun _ => after m ρ c) $$ [HP Hpos Hdut Hcr Hha Hscr HO Hx Hout]
  · unfold begin owing
    isplitl [HP Hpos Hdut Hcr Hha Hscr]
    · isplitl [HP]; · iexact HP
      isplitl [Hpos]; · iexact Hpos
      isplitl [Hdut]; · iexact Hdut
      isplitl [Hcr]; · iexact Hcr
      isplitl [Hha]; · iexact Hha
      iexact Hscr
    isplitl [HO]; · iexists W; iexact HO
    isplitl [Hx]; · iexact Hx
    iexists g1; iexact Hout
  · unfold after Φ₁ owing Dat.owesAt Pipeline.owesWithin
    iintro ⟨Hscr, Hz, ⟨%W', HO⟩, Hx, Hout⟩
    isplitl [Hscr Hz]
    · isplitl [Hscr]; · iexact Hscr
      iexact Hz
    isplitl [HO]
    · iexists W'; isplitr; · (ipureintro; exact fun _ _ => Or.inl trivial)
      rw [show (dats m ρ 0 c).owed t0_0.succ = 0 from rfl]
      iexact HO
    isplitl [Hx]
    · iexists _; isplitr; · (ipureintro; rfl)
      iexact Hx
    iexists _; isplitr; · (ipureintro; rfl)
    iexact Hout

set_option maxRecDepth 8000 in
/-- What the pipeline calls at its one point. -/
theorem called : defs₀ (F := F) Proc.tc 0 (t0_0, cfg0.slots t0_0) = cc0_body (F := F) (Memref.whole cc0_stg0_0) (Memref.isWhole_whole _) (Memref.whole main_arg1) (Memref.isWhole_whole _) (Memref.whole main_arg2) (Memref.isWhole_whole _)
      (Memref.whole main_arg3) (Memref.isWhole_whole _) (Memref.whole main_arg4) (Memref.isWhole_whole _)
      (Memref.whole main_arg5) (Memref.isWhole_whole _) (Memref.whole main_arg6) (Memref.isWhole_whole _) (Memref.whole cc0_stg1_0) (Memref.isWhole_whole _)
      psM (Memref.isWhole_whole _) pbM (Memref.isWhole_whole _) agM (Memref.isWhole_whole _) xbM (Memref.isWhole_whole _)
      wiM (Memref.isWhole_whole _) woM (Memref.isWhole_whole _) cc0_scratch6 cc0_scratch7 cc0_scratch8 cc0_scratch9 := rfl

set_option maxRecDepth 4000 in
/-- The body does what the pipeline asks of it. -/
theorem body_obligation (c : Dev nD) : BodyObligation (dats (F := F) m ρ 0 c) (defs₀ (F := F)) Variants.none 0 Set.univ := fun t => by
  rw [show t = t0_0 from fin_N0 t]
  rw [bs_W, bs_W]
  simp only [owns_whole_eq]
  rw [called, body_eq]
  have h := body_run m ρ c
  have e0 : (dats m ρ 0 c).Φ t0_0.castSucc = Φ₀ m ρ c := rfl
  have e1 : (dats m ρ 0 c).Φ t0_0.succ = Φ₁ (F := F) c := rfl
  have e2 : (dats m ρ 0 c).after 0 t0_0 = xstg m ρ c := rfl
  have e3 : (dats m ρ 0 c).after 1 t0_0 = outAt m ρ c := rfl
  unfold before after at h
  rw [e0, e1, e2, e3]
  generalize body (F := F) _ _ = B at h ⊢
  exact h

/-! ## The launch -/

/-- The protocol's semaphores are the kernel's own. -/
theorem ownSemFacts : Pipeline.OwnSemFacts cfg0.spec osem := by decide +kernel

/-- Each window's array is held in full. -/
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

/-- One half of a weight array, kept aside while the device copies from the other. -/
def kept (c : Dev nD) (b : Ref sig .tc) : sProp 𝕄 := ((c : Thread nD τ).loc b) ↦{fullShare.left} m ((c : Thread nD τ).loc b)
def keptAll (c : Dev nD) : sProp 𝕄 := iprop(kept m c main_arg1 ∗ kept m c main_arg2 ∗ kept m c main_arg3 ∗ kept m c main_arg4 ∗ kept m c main_arg5 ∗ kept m c main_arg6)

/-- An array is split into the half that is kept aside and the half the body uses. -/
theorem halve (c : Dev nD) (b : Ref sig .tc) : (((c : Thread nD τ).loc b) ↦{fullShare} m ((c : Thread nD τ).loc b) : sProp 𝕄) ⊢ iprop(kept m c b ∗ half m c b) :=
  (pointsTo_share (PosShare.mem_left_op_right _)).1.trans (sep_mono_right (half_intro m c b))

/-- One array's kept half tells its final contents. -/
theorem kept_read (c : Dev nD) (b : Ref sig .tc) (s' : Phys nD τ sig (Elt F)) :
    iprop(kept m c b ∗ SI s') ⊢ iprop(⌜s'.mem.mem ((c : Thread nD τ).loc b) = m ((c : Thread nD τ).loc b)⌝ ∗ (SI s' : sProp 𝕄)) := by
  have h := pointsTo_read_all (Ix := ℕ) (Name := ℕ) (U := UU) (Lvl := ℕ) ({()} : Finset Unit) (fun _ => (c : Thread nD τ).loc b) (fun _ => m ((c : Thread nD τ).loc b)) s' fullShare.left
  rw [BI.bigSep_singleton] at h
  exact h.trans (sep_mono_left (BI.pure_mono fun h => h () (Finset.mem_singleton_self _)))

/-- The weight arrays of device `c` are as launched. -/
def Kept (c : Dev nD) (s' : MemSt nD τ sig (Elt F)) : Prop :=
  s'.mem ((c : Thread nD τ).loc main_arg1) = m ((c : Thread nD τ).loc main_arg1) ∧ s'.mem ((c : Thread nD τ).loc main_arg2) = m ((c : Thread nD τ).loc main_arg2)
    ∧ s'.mem ((c : Thread nD τ).loc main_arg3) = m ((c : Thread nD τ).loc main_arg3) ∧ s'.mem ((c : Thread nD τ).loc main_arg4) = m ((c : Thread nD τ).loc main_arg4)
    ∧ s'.mem ((c : Thread nD τ).loc main_arg5) = m ((c : Thread nD τ).loc main_arg5) ∧ s'.mem ((c : Thread nD τ).loc main_arg6) = m ((c : Thread nD τ).loc main_arg6)

/-- The weights that were kept aside show that memory still holds them. -/
theorem keptAll_read (c : Dev nD) (s' : Phys nD τ sig (Elt F)) : iprop(keptAll m c ∗ SI s') ⊢ iprop(⌜Kept m c s'.mem⌝ ∗ (SI s' : sProp 𝕄)) := by
  unfold keptAll
  iintro ⟨⟨H1, H2, H3, H4, H5, H6⟩, HS⟩
  ihave HS := (kept_read m c main_arg1 s') $$ [H1 HS]
  · isplitl [H1]; · iexact H1
    iexact HS
  icases HS with ⟨%h1, HS⟩
  ihave HS := (kept_read m c main_arg2 s') $$ [H2 HS]
  · isplitl [H2]; · iexact H2
    iexact HS
  icases HS with ⟨%h2, HS⟩
  ihave HS := (kept_read m c main_arg3 s') $$ [H3 HS]
  · isplitl [H3]; · iexact H3
    iexact HS
  icases HS with ⟨%h3, HS⟩
  ihave HS := (kept_read m c main_arg4 s') $$ [H4 HS]
  · isplitl [H4]; · iexact H4
    iexact HS
  icases HS with ⟨%h4, HS⟩
  ihave HS := (kept_read m c main_arg5 s') $$ [H5 HS]
  · isplitl [H5]; · iexact H5
    iexact HS
  icases HS with ⟨%h5, HS⟩
  ihave HS := (kept_read m c main_arg6 s') $$ [H6 HS]
  · isplitl [H6]; · iexact H6
    iexact HS
  icases HS with ⟨%h6, HS⟩
  isplitr
  · ipureintro; exact ⟨h1, h2, h3, h4, h5, h6⟩
  iexact HS

/-- What a device is launched with is what the run starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ keptAll m c) := by
  rw [Pipeline.unscopedRestP_none, unscopedRest0_eq]
  iintro ⟨⟨H1, H2, H3, H4, H5, H6⟩, Hlev, Hcr, -, HG⟩
  ihave Hc := (creds (F := F) c) $$ Hcr
  ihave H1 := (halve m c main_arg1) $$ H1
  ihave H2 := (halve m c main_arg2) $$ H2
  ihave H3 := (halve m c main_arg3) $$ H3
  ihave H4 := (halve m c main_arg4) $$ H4
  ihave H5 := (halve m c main_arg5) $$ H5
  ihave H6 := (halve m c main_arg6) $$ H6
  icases H1 with ⟨L1, R1⟩
  icases H2 with ⟨L2, R2⟩
  icases H3 with ⟨L3, R3⟩
  icases H4 with ⟨L4, R4⟩
  icases H5 with ⟨L5, R5⟩
  icases H6 with ⟨L6, R6⟩
  unfold G'
  icases HG with ⟨%K, HI, Hpos, Hdut⟩
  imodintro
  unfold start keptAll ctx halves
  isplitr [L1 L2 L3 L4 L5 L6]
  · iexists K
    isplitl [HI Hlev]
    · isplitl [HI]; · iexact HI
      iexact Hlev
    isplitl [Hpos]; · iexact Hpos
    isplitl [Hdut]; · iexact Hdut
    isplitl [Hc]; · iexact Hc
    isplitl [R1]; · iexact R1
    isplitl [R2]; · iexact R2
    isplitl [R3]; · iexact R3
    isplitl [R4]; · iexact R4
    isplitl [R5]; · iexact R5
    iexact R6
  · isplitl [L1]; · iexact L1
    isplitl [L2]; · iexact L2
    isplitl [L3]; · iexact L3
    isplitl [L4]; · iexact L4
    isplitl [L5]; · iexact L5
    iexact L6

/-- The scratch buffers, one by one. -/
theorem scratch_eq (c : Dev nD) : (Pipeline.scopedRest cfg0.spec c : sProp 𝕄) = scratch (F := F) c := scopedRest0_eq c

/-- The start gives the body its precondition. -/
theorem phi_start (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

/-- The body's end gives back the semaphores and the scratch buffers. -/
theorem phi_end (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scratch_eq, ownSems0_eq, unscopedSems0_eq, own_eq]
  unfold Φ₁ zeros
  iintro ⟨Hr, HzB, HzO⟩
  isplitl [HzB]; · iexact HzB
  isplitl [HzO]; · iexact HzO
  iexact Hr

/-- A semaphore outside the protocol has level 0. -/
theorem lv_none (c : Dev nD) (sm : SemLoc sig) (u : ℕ) (h : cls sm = none) : lv ((c : Thread nD τ), sm) u = 0 := by unfold lv; rw [h]

/-- The pipeline's own waits are below everything that is owed. -/
theorem waits (c : Dev nD) : (levAts L lv : sProp 𝕄) ⊢ Pipeline.cellsWaits cfgs (dats m ρ) 0 0 c :=
  Pipeline.cellsWaits_intro cfgs (dats m ρ) 0 0 c fun w s t =>
    mayWait c _ 0 0 _ (by decide) (le_of_eq (lv_none c _ 0 (by fin_cases w <;> fin_cases s <;> decide +kernel))) (by
      rcases t with ⟨_ | _, ht⟩
      · exact above_O₀ c
      · exact Above.zero 0)

/-- What the run leaves in the windowed arrays: the input as launched, the result as computed. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ Kept m c r.2

set_option maxRecDepth 50000 in
/-- For any float values and from any memory with its counters at zero, every fair execution of the program on the
    32 devices ends, without fault, with the windowed arrays at their computed contents, the weights as launched
    and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := keptAll m)
    (hX := start_intro m ρ) (hin := phi_start m ρ) (hout := phi_end m ρ)
    (QY := fun c s => (∀ sm : SemLoc sig, sm.isScoped .tc = false → s.sem ((c.tc : Thread nD τ), sm) = 0) ∧ Kept m c s)
    (hY := fun c s' => by
      have h := Pipeline.unscopedSems0_read (X := (unscopedSems0 c : sProp 𝕄)) (c := c) fupd_intro s'
      iintro ⟨Hu, HZ, HSI⟩
      ihave HS := (keptAll_read m c s') $$ [HZ HSI]
      · isplitl [HZ]; · iexact HZ
        iexact HSI
      icases HS with ⟨%hk, HSI⟩
      imod h $$ [Hu HSI] with ⟨%hu, HSI⟩
      · isplitl [Hu]; · iexact Hu
        iexact HSI
      imodintro
      isplitr
      · ipureintro; exact ⟨hu, hk⟩
      iexact HSI)
    (hQ := fun _ h hs => ⟨fun c => ⟨(h c).1, (h c).2.2.2⟩, sem_eq_zero hs fun c => (h c).2.2.1⟩)

/-- The input array after the run holds what it held. -/
theorem finalA_x (c : Dev nD) : finalA m ρ c (0 : Fin 2) = m ((c : Thread nD τ).loc main_arg0) :=
  (dats (F := F) m ρ 0 c).arrAt_in (0 : Fin 2) rfl _

end Cert.KernelIdeal.Ring

end
-- ==== Proof.Value.lean ====
module

public import proofs.«01_k».proof.Proof.Run
public import Idealize.ShloMosaic.Lib.KernelVsHost
public import Idealize.ShloMosaic.Lib.StackMember
public import Idealize.ShloMosaic.Lib.Layout

@[expose] public section

/-! # The values

What the devices compute, over the ideal values: each layer's partial results add up, over the devices, to the layer
of the whole weights. Sums of extended reals may be regrouped; nothing is distributed. -/

noncomputable section

namespace Cert.KernelIdeal.Ring

open Idealize.ShloMosaic Idealize.ShloMosaic.TcCoe Idealize.ShloMosaic.ValueIdx
open Cert.KernelIdeal Cert.KernelIdeal.Gen

/-! ## A layer -/

/-- The product of two matrices, entry by entry. -/
def mm {M K N : ℕ} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- The positive part of every entry. -/
def relu {s : Shape} (A : s.Idx → EReal) : s.Idx → EReal := fun i => max (A i) 0

/-- One layer with `H` hidden units: the first product, the positive part, the second product. -/
def mlp {H : ℕ} (X : S64x1024.Idx → EReal) (A : (⟨2, ![1024, H]⟩ : Shape).Idx → EReal)
    (B : (⟨2, ![H, 1024]⟩ : Shape).Idx → EReal) : S64x1024.Idx → EReal :=
  mm (M := 64) (N := 1024) (relu (mm (M := 64) X A)) B

/-- A layer, entry by entry. -/
theorem mlp_apply {H : ℕ} (X : S64x1024.Idx → EReal) (A : (⟨2, ![1024, H]⟩ : Shape).Idx → EReal)
    (B : (⟨2, ![H, 1024]⟩ : Shape).Idx → EReal) (i : S64x1024.Idx) :
    mlp X A B i = ∑ l : Fin H, relu (mm (M := 64) X A) (ix2 (i 0) l) * B (ix2 l (i 1)) := rfl

/-- The host's product of two matrices is their product. -/
theorem host_mm {M K N : ℕ} {φ₁ φ₂ : FTy} (prec : Option ContractPrecision) (A : FVec Ideal ⟨2, ![M, K]⟩ φ₁)
    (B : FVec Ideal ⟨2, ![K, N]⟩ φ₂) : Host.dotGeneral (DotDims.plain M K N) prec A B = mm A B := by
  funext i
  rw [eq_ix2 i]
  exact StackMember.dotGeneral_plain_apply prec A B (i 0) (i 1)

/-- The kernel's product, added to zero, of two matrices is their product. -/
theorem kernel_mm {M K N : ℕ} {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = mm A B :=
  (matmul_zero_eq_dotGeneral _ _ _ _).trans (host_mm _ _ _)

/-- The kernel's maximum with zero is the positive part. -/
theorem kernel_relu {s : Shape} (A : FVec Ideal s .f32) :
    maximumf A (broadcast s (Scalar.ofBits (F := Ideal) .f32 0x00000000#32)) = relu A := by
  funext i
  show max (A i) (Ideal.ofBits .f32 0x00000000#32) = max (A i) 0
  rw [Ideal.ofBits_zero_f32]

/-- A layer as the kernel computes it. -/
theorem kernel_mlp (X : FVec Ideal S64x1024 .bf16) (A : FVec Ideal S1024x2048 .bf16) (B : FVec Ideal S2048x1024 .bf16) :
    matmul dot_S64x2048_S2048x1024_S64x1024_1_0_0_1_n_n none
      (maximumf (matmul dot_S64x1024_S1024x2048_S64x2048_1_0_0_1_n_n none X A (constant S64x2048 .f32 0x00000000#32))
        (broadcast S64x2048 (Scalar.ofBits (F := Ideal) .f32 0x00000000#32)) : FVec Ideal S64x2048 .f32)
      B (constant S64x1024 .f32 0x00000000#32) = mlp X A B := by
  have h1 : matmul dot_S64x1024_S1024x2048_S64x2048_1_0_0_1_n_n none X A (constant S64x2048 .f32 0x00000000#32)
      = mm (M := 64) (N := 2048) X A := kernel_mm (M := 64) (K := 1024) (N := 2048) none X A
  rw [h1, kernel_relu]
  exact kernel_mm (M := 64) (K := 2048) (N := 1024) none _ B

/-! ## The kernel's stored values -/

/-- First weights loaded from a slot and laid flat are the weights. -/
theorem flat_ldI (w : S1024x2048.Idx → EReal) (s : Fin 2) :
    shapeCast S1024x2048 (ldI (F := Ideal) w s) shapeCasts_S1x1024x2048_S1024x2048 = w := by
  funext i
  rw [eq_ix2 i]
  refine (shapeCast_1ab_ab_apply _ _ (i 0) (i 1)).trans ?_
  show w _ = w _
  congr 1
  funext a
  apply Fin.ext
  match a with
  | ⟨0, _⟩ => exact (unit_emb_val _ _ _ _ _).trans (Nat.zero_add _)
  | ⟨1, _⟩ => exact (unit_emb_val _ _ _ _ _).trans (Nat.zero_add _)

/-- Second weights loaded from a slot and laid flat are the weights. -/
theorem flat_ldO (w : S2048x1024.Idx → EReal) (s : Fin 2) :
    shapeCast S2048x1024 (ldO (F := Ideal) w s) shapeCasts_S1x2048x1024_S2048x1024 = w := by
  funext i
  rw [eq_ix2 i]
  refine (shapeCast_1ab_ab_apply _ _ (i 0) (i 1)).trans ?_
  show w _ = w _
  congr 1
  funext a
  apply Fin.ext
  match a with
  | ⟨0, _⟩ => exact (unit_emb_val _ _ _ _ _).trans (Nat.zero_add _)
  | ⟨1, _⟩ => exact (unit_emb_val _ _ _ _ _).trans (Nat.zero_add _)

/-- First weights loaded and rounded are the weights. -/
theorem pay4_eq (w : S1024x2048.Idx → EReal) (s : Fin 2) : k0_pay4 (F := Ideal) (ldI w s) = w := flat_ldI w s
/-- Second weights loaded and rounded are the weights. -/
theorem pay5_eq (w : S2048x1024.Idx → EReal) (s : Fin 2) : k0_pay5 (F := Ideal) (ldO w s) = w := flat_ldO w s

/-- A layer stored from rounded operands. -/
theorem pay8_eq (x : S64x1024.Idx → EReal) (a : S1024x2048.Idx → EReal) (b : S2048x1024.Idx → EReal) :
    k0_pay8 (F := Ideal) a b x = mlp x a b := by
  unfold k0_pay8
  simp only [shapeCast_self]
  exact kernel_mlp x a b

/-- The first layer's stored partial results: computed in two pieces, they are as the second layer's. -/
theorem pay_first_eq (x : S64x1024.Idx → EReal) (a : Vec Ideal S1x1024x2048 .f32) (b : Vec Ideal S1x2048x1024 .f32) :
    k0_pay3 (F := Ideal) (k0_pay2 (k0_pay1 x a) b) = k0_pay8 (k0_pay4 a) (k0_pay5 b) x := by
  unfold k0_pay3 k0_pay2 k0_pay1 k0_pay8 k0_pay4 k0_pay5
  simp only [shapeCast_self]
  rfl

/-- The second layer's stored partial results. -/
theorem pay_second (x : S64x1024.Idx → EReal) (a : S1024x2048.Idx → EReal) (b : S2048x1024.Idx → EReal) (s s' : Fin 2) :
    k0_pay8 (F := Ideal) (k0_pay4 (ldI a s)) (k0_pay5 (ldO b s')) x = mlp x a b :=
  (congrArg₂ (fun a b => k0_pay8 (F := Ideal) a b x) (pay4_eq a s) (pay5_eq b s')).trans (pay8_eq x a b)

/-- The first layer's stored partial results. -/
theorem pay_first (x : S64x1024.Idx → EReal) (a : S1024x2048.Idx → EReal) (b : S2048x1024.Idx → EReal) (s s' : Fin 2) :
    k0_pay3 (F := Ideal) (k0_pay2 (k0_pay1 x (ldI a s)) (ldO b s')) = mlp x a b :=
  (pay_first_eq x _ _).trans (pay_second x a b s s')

/-- The third layer's store is the second's. -/
theorem pay13_eq : k0_pay13 (F := Ideal) = k0_pay8 := rfl
/-- The third layer's first weights are rounded as the second's. -/
theorem pay9_eq : k0_pay9 (F := Ideal) = k0_pay4 := rfl
/-- The third layer's second weights are rounded as the second's. -/
theorem pay10_eq : k0_pay10 (F := Ideal) = k0_pay5 := rfl

/-- The third layer's stored partial results. -/
theorem pay_third (x : S64x1024.Idx → EReal) (a : S1024x2048.Idx → EReal) (b : S2048x1024.Idx → EReal) (s s' : Fin 2) :
    k0_pay13 (F := Ideal) (k0_pay9 (ldI a s)) (k0_pay10 (ldO b s')) x = mlp x a b := by
  rw [pay13_eq, pay9_eq, pay10_eq]
  exact pay_second x a b s s'

/-- The row pair a device makes of the partial results gathered on it: the sum over the devices. -/
theorem sum_gathered (X : Fin 32 → S64x1024.Idx → EReal) (c : Fin 32) (i : S2x1024.Idx) :
    k0_pay6 (F := Ideal) (gathered X c) i
      = ∑ p : Fin 32, X p (ix2 (⟨2 * c.val + (i 0).val, by have : (i 0).val < 2 := (i 0).isLt; omega⟩ : Fin 64) (i 1)) := by
  refine (Ideal.multiReduction_add_single (φ := .f32) (extf .f32 (gathered X c : FVec Ideal S32x2x1024 .bf16) bitsLt_bf16_f32)
    0x00000000#32 reduces_S32x2x1024_S2x1024 (.inl rfl) rfl i).trans ?_
  rfl

/-- The second layer's reduction is the first's. -/
theorem pay11_eq : k0_pay11 (F := Ideal) = k0_pay6 := rfl
/-- The third layer's reduction is the first's. -/
theorem pay14_eq : k0_pay14 (F := Ideal) = k0_pay6 := rfl
/-- A reduced row pair is stored as it is. -/
theorem pay7_eq (v : S2x1024.Idx → EReal) : k0_pay7 (F := Ideal) v = v := by
  unfold k0_pay7
  simp only [shapeCast_self]
  rfl
/-- The second layer's reduced row pair is stored as it is. -/
theorem pay12_eq (v : S2x1024.Idx → EReal) : k0_pay12 (F := Ideal) v = v := by
  unfold k0_pay12
  simp only [shapeCast_self]
  rfl

/-- Stacked, the row pairs are the sum of the devices' partial results. -/
theorem stacked_sum (X : Fin 32 → S64x1024.Idx → EReal) :
    stacked (fun c => k0_pay6 (F := Ideal) (gathered X c)) = fun i => ∑ p : Fin 32, X p i := by
  funext i
  refine (sum_gathered X _ _).trans (Finset.sum_congr rfl fun p _ => congrArg (X p) ?_)
  refine Eq.trans ?_ (eq_ix2 i).symm
  congr 1
  exact Fin.ext (Nat.div_add_mod _ 2)

/-! ## The whole weights from their blocks -/

/-- Hidden unit `l` of block `p`, among all. -/
def unitAt (p : Fin 32) (l : Fin 2048) : Fin 65536 := ⟨p.val * 2048 + l.val, by omega⟩

/-- A sum over all hidden units is the sum over the blocks of the sums over their units. -/
theorem sum_units (f : Fin 65536 → EReal) : ∑ h : Fin 65536, f h = ∑ p : Fin 32, ∑ l : Fin 2048, f (unitAt p l) := by
  rw [← Fintype.sum_prod_type']
  refine (Equiv.sum_comp (finProdFinEquiv (m := 32) (n := 2048)) f).symm.trans ?_
  refine Finset.sum_congr rfl fun q _ => congrArg f (Fin.ext ?_)
  show q.2.val + 2048 * q.1.val = q.1.val * 2048 + q.2.val
  omega

/-- The devices' layers, each of its block of the weights, add up to the layer of the whole weights. -/
theorem mlp_blocks (X : S64x1024.Idx → EReal) (A : (⟨2, ![1024, 65536]⟩ : Shape).Idx → EReal)
    (B : (⟨2, ![65536, 1024]⟩ : Shape).Idx → EReal) :
    (fun i => ∑ p : Fin 32, mlp X (Layout.block ⟨2, ![1024, 2048]⟩ ⟨2, ![1024, 65536]⟩ 1 32 p A)
      (Layout.block ⟨2, ![2048, 1024]⟩ ⟨2, ![65536, 1024]⟩ 0 32 p B) i) = mlp X A B := by
  have eA : ∀ (p : Fin 32) (k : Fin 1024) (l : Fin 2048),
      Layout.block ⟨2, ![1024, 2048]⟩ ⟨2, ![1024, 65536]⟩ 1 32 p A (by decide) (ix2 k l) = A (ix2 k (unitAt p l)) := fun p k l =>
    congrArg A (funext fun a => Fin.ext (match a with | ⟨0, _⟩ => rfl | ⟨1, _⟩ => rfl))
  have eB : ∀ (p : Fin 32) (l : Fin 2048) (k : Fin 1024),
      Layout.block ⟨2, ![2048, 1024]⟩ ⟨2, ![65536, 1024]⟩ 0 32 p B (by decide) (ix2 l k) = B (ix2 (unitAt p l) k) := fun p l k =>
    congrArg B (funext fun a => Fin.ext (match a with | ⟨0, _⟩ => rfl | ⟨1, _⟩ => rfl))
  funext i
  refine Eq.trans ?_ (sum_units fun h => relu (mm (M := 64) (N := 65536) X A) (ix2 (i 0) h) * B (ix2 h (i 1))).symm
  refine Finset.sum_congr rfl fun p _ => (mlp_apply _ _ _ i).trans (Finset.sum_congr rfl fun l _ => ?_)
  refine congrArg₂ (· * ·) (congrArg (max · 0) ?_) (eB p l (i 1))
  exact Finset.sum_congr rfl fun k _ => congrArg (X (ix2 (i 0) k) * ·) (eA p k l)

/-! ## The result -/

variable (m : (ℓ : Loc nD τ sig) → Buf (Elt Ideal) ℓ) (ρ : Dev nD → PrngReg)

/-- The staged input is the input. -/
theorem xstg_eq (c : Dev nD) : xstg m ρ c = m ((c : Thread nD τ).loc main_arg0) :=
  Memref.read_access_unit_zero (Elt Ideal) main_arg0 (funext fun a => Nat.zero_mul _) _ _

/-- The output array after the run holds the device's rows of the result. -/
theorem finalA_out (c : Dev nD) : finalA m ρ c (1 : Fin 2) = outAt m ρ c := by
  have hr := fun f => Memref.read_access_unit_zero (Elt Ideal) main_v1
    (off := fun a => win0_1.index (0 : Fin 1) a * main_v1.ty.shape.size a) (funext fun a => Nat.zero_mul _)
    (fun a => by fin_cases a <;> decide) f
  refine (hr _).symm.trans ?_
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- From a memory whose argument arrays are blocks of whole ones, a device ends with its rows of the three layers. -/
theorem out_eq (x : S64x1024.Idx → EReal) (A1 A2 A3 : (⟨2, ![1024, 65536]⟩ : Shape).Idx → EReal)
    (B1 B2 B3 : (⟨2, ![65536, 1024]⟩ : Shape).Idx → EReal)
    (h0 : ∀ c : Dev nD, xstg m ρ c = x)
    (h1 : ∀ c : Dev nD, w1 m c = Layout.block ⟨2, ![1024, 2048]⟩ ⟨2, ![1024, 65536]⟩ 1 32 c A1)
    (h2 : ∀ c : Dev nD, w2 m c = Layout.block ⟨2, ![2048, 1024]⟩ ⟨2, ![65536, 1024]⟩ 0 32 c B1)
    (h3 : ∀ c : Dev nD, w3 m c = Layout.block ⟨2, ![1024, 2048]⟩ ⟨2, ![1024, 65536]⟩ 1 32 c A2)
    (h4 : ∀ c : Dev nD, w4 m c = Layout.block ⟨2, ![2048, 1024]⟩ ⟨2, ![65536, 1024]⟩ 0 32 c B2)
    (h5 : ∀ c : Dev nD, w5 m c = Layout.block ⟨2, ![1024, 2048]⟩ ⟨2, ![1024, 65536]⟩ 1 32 c A3)
    (h6 : ∀ c : Dev nD, w6 m c = Layout.block ⟨2, ![2048, 1024]⟩ ⟨2, ![65536, 1024]⟩ 0 32 c B3) (c : Dev nD) :
    outAt m ρ c = Layout.block ⟨2, ![2, 1024]⟩ ⟨2, ![64, 1024]⟩ 0 32 c (mlp (mlp (mlp x A1 B1) A2 B2) A3 B3) := by
  have p0 : PS0 m ρ = fun p => mlp x (Layout.block ⟨2, ![1024, 2048]⟩ ⟨2, ![1024, 65536]⟩ 1 32 p A1)
      (Layout.block ⟨2, ![2048, 1024]⟩ ⟨2, ![65536, 1024]⟩ 0 32 p B1) := by
    funext p
    exact (pay_first _ _ _ _ _).trans (by rw [h0, h1, h2])
  have r0 : stacked (RED0 m ρ) = mlp x A1 B1 := by
    refine Eq.trans (congrArg stacked (funext fun p => (pay7_eq _).trans ?_)) ((stacked_sum _).trans (mlp_blocks x A1 B1))
    rw [p0]
  have p1 : PS1 m ρ = fun p => mlp (mlp x A1 B1) (Layout.block ⟨2, ![1024, 2048]⟩ ⟨2, ![1024, 65536]⟩ 1 32 p A2)
      (Layout.block ⟨2, ![2048, 1024]⟩ ⟨2, ![65536, 1024]⟩ 0 32 p B2) := by
    funext p
    exact (pay_second _ _ _ _ _).trans (by rw [r0, h3, h4])
  have r1 : stacked (RED1 m ρ) = mlp (mlp x A1 B1) A2 B2 := by
    refine Eq.trans (congrArg stacked (funext fun p => (pay12_eq _).trans ?_)) ((stacked_sum _).trans (mlp_blocks _ A2 B2))
    rw [p1, pay11_eq]
  have p2 : PS2 m ρ = fun p => mlp (mlp (mlp x A1 B1) A2 B2) (Layout.block ⟨2, ![1024, 2048]⟩ ⟨2, ![1024, 65536]⟩ 1 32 p A3)
      (Layout.block ⟨2, ![2048, 1024]⟩ ⟨2, ![65536, 1024]⟩ 0 32 p B3) := by
    funext p
    exact (pay_third _ _ _ _ _).trans (by rw [r1, h5, h6])
  funext i
  refine Eq.trans (sum_gathered (PS2 m ρ) c i) ?_
  rw [p2]
  refine (congrFun (mlp_blocks (mlp (mlp x A1 B1) A2 B2) A3 B3) _).trans (congrArg (mlp (mlp (mlp x A1 B1) A2 B2) A3 B3) ?_)
  funext a
  apply Fin.ext
  match a with
  | ⟨0, _⟩ => exact congrArg (· + (i 0).val) (Nat.mul_comm 2 c.val)
  | ⟨1, _⟩ => rfl

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel at the exact values: it runs, its arguments end unchanged, its counters end at zero. -/
theorem frame_ideal : Cert.quiescent_KernelIdeal := fun m g _ =>
  (θ_run (Cert.KernelIdeal.defs (F := Ideal)) _ _).mono
    (fun r h => ⟨fun c => ⟨((h.1 c).1 (0 : Fin 2)).trans (Cert.KernelIdeal.Ring.finalA_x m g c), (h.1 c).2⟩, h.2⟩)
    (Cert.KernelIdeal.Ring.run_main (F := Ideal) m g)

/-- The two printed programs call the same bodies. -/
theorem same_bodies : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rfl

/-- The kernel and its ideal reading run the same bodies. -/
theorem same_defs : Cert.Kernel.defs (F := Bits) = Cert.KernelIdeal.defs (F := Bits) := by
  unfold Cert.Kernel.defs Cert.KernelIdeal.defs
  exact congrArg (Pipeline.defs _) same_bodies

/-- The kernel at bit patterns: the same run, the two programs being the same text. -/
theorem frame_bits : Cert.quiescent_Kernel := fun m g _ => by
  rw [same_defs]
  exact (θ_run (Cert.KernelIdeal.defs (F := Bits)) _ _).mono
    (fun r h => ⟨fun c => ⟨((h.1 c).1 (0 : Fin 2)).trans (Cert.KernelIdeal.Ring.finalA_x m g c), (h.1 c).2⟩, h.2⟩)
    (Cert.KernelIdeal.Ring.run_main (F := Bits) m g)

/-- The reference: it runs, its arguments end unchanged; it has no semaphores. -/
theorem frame_reference : Cert.quiescent_ReferenceIdeal := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- The reference's layer, as the host computes it. -/
theorem host_mlp (X : FVec Ideal ⟨2, ![64, 1024]⟩ .f32) (A : FVec Ideal ⟨2, ![1024, 65536]⟩ .f32) (B : FVec Ideal ⟨2, ![65536, 1024]⟩ .f32) :
    Host.dotGeneral Cert.ReferenceIdeal.dot_S64x65536_S65536x1024_S64x1024_1_0_0_1_n_n none
      (maximumf (Host.dotGeneral Cert.ReferenceIdeal.dot_S64x1024_S1024x65536_S64x65536_1_0_0_1_n_n none X A)
        (broadcastInDim Cert.ReferenceIdeal.S64x65536 ![] Cert.ReferenceIdeal.Gen.bcast_S_S64x65536
          (constant Cert.ReferenceIdeal.S_ .f32 0x00000000#32))) B
      = Cert.KernelIdeal.Ring.mlp X A B := by
  have h1 : Host.dotGeneral Cert.ReferenceIdeal.dot_S64x1024_S1024x65536_S64x65536_1_0_0_1_n_n none X A
      = Cert.KernelIdeal.Ring.mm (M := 64) (N := 65536) X A := Cert.KernelIdeal.Ring.host_mm (M := 64) (K := 1024) (N := 65536) none X A
  rw [h1]
  refine (Cert.KernelIdeal.Ring.host_mm (M := 64) (K := 65536) (N := 1024) none _ B).trans ?_
  exact congrArg (fun H => Cert.KernelIdeal.Ring.mm (M := 64) (N := 1024) H B)
    (Cert.KernelIdeal.Ring.kernel_relu (s := ⟨2, ![64, 65536]⟩) (Cert.KernelIdeal.Ring.mm (M := 64) (N := 65536) X A))

/-- The kernel computes the reference's three layers, each device its two rows of the result. -/
theorem algebraic_main : Cert.algebraic_KernelIdeal_ReferenceIdeal := fun m g m' g' _ hin => by
  refine ⟨_, ?_, (θ_run (Cert.ReferenceIdeal.defs (F := Ideal)) _ _).mono (fun r h => h 0)
    (Cert.ReferenceIdeal.Value.run (F := Ideal) m' g')⟩
  refine (θ_run (Cert.KernelIdeal.defs (F := Ideal)) _ _).mono (fun r h c => ⟨((h.1 c).1 (1 : Fin 2)).trans ?_,
    ((h.1 c).1 (0 : Fin 2)).trans (Cert.KernelIdeal.Ring.finalA_x m g c), (h.1 c).2⟩)
    (Cert.KernelIdeal.Ring.run_main (F := Ideal) m g)
  refine (Cert.KernelIdeal.Ring.finalA_out m g c).trans ((Cert.KernelIdeal.Ring.out_eq m g _ _ _ _ _ _ _
    (fun c => (Cert.KernelIdeal.Ring.xstg_eq m g c).trans (hin c).1) (fun c => (hin c).2.1) (fun c => (hin c).2.2.1)
    (fun c => (hin c).2.2.2.1) (fun c => (hin c).2.2.2.2.1) (fun c => (hin c).2.2.2.2.2.1)
    (fun c => (hin c).2.2.2.2.2.2) c).trans ?_)
  refine congrArg (fun v => Layout.block ⟨2, ![2, 1024]⟩ ⟨2, ![64, 1024]⟩ 0 32 c v) ?_
  rw [host_mlp, host_mlp, host_mlp]

/-- Everything that is claimed. -/
theorem claim : Cert.Claim := ⟨Cert.Kernel.Gen.facts, Cert.KernelIdeal.Gen.facts, Cert.ReferenceIdeal.Gen.facts,
  frame_bits, frame_ideal, frame_reference, trivial, algebraic_main⟩

end Cert.Proof

end
